-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseRef (m : (ℓ : Loc Cert.QuantiseRef.nD Cert.QuantiseRef.τ Cert.QuantiseRef.sig) → Buf (Elt Bits) ℓ) : Prop :=
  True

def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulRefIdeal (m : (ℓ : Loc Cert.MatmulRefIdeal.nD Cert.MatmulRefIdeal.τ Cert.MatmulRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseRef [hQuantiseRef : Cert.QuantiseRef.Facts] : Prop :=
  ∀ (m : (ℓ : Loc Cert.QuantiseRef.nD Cert.QuantiseRef.τ Cert.QuantiseRef.sig) → Buf (Elt Bits) ℓ) (g : Dev Cert.QuantiseRef.nD → PrngReg), Pre_QuantiseRef m →
    θ_run (Cert.QuantiseRef.defs (F := Bits)) (onTc (τ := Cert.QuantiseRef.τ) (Cert.QuantiseRef.main (F := Bits))) ⟨m, fun _ => 0, g⟩ (fun r => (∀ c : Dev Cert.QuantiseRef.nD,
      r.2.mem ((c.tc : Thread Cert.QuantiseRef.nD Cert.QuantiseRef.τ).loc Cert.QuantiseRef.main_arg0) = m ((c.tc : Thread Cert.QuantiseRef.nD Cert.QuantiseRef.τ).loc Cert.QuantiseRef.main_arg0))
      ∧ r.2.sem = fun _ => 0)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1)
      ∧ r.2.mem ((c.tc : Thread Cert.Matmul.nD Cert.Matmul.τ).loc Cert.Matmul.main_arg2) = m ((c.tc : Thread Cert.Matmul.nD Cert.Matmul.τ).loc Cert.Matmul.main_arg2)
      ∧ r.2.mem ((c.tc : Thread Cert.Matmul.nD Cert.Matmul.τ).loc Cert.Matmul.main_arg3) = m ((c.tc : Thread Cert.Matmul.nD Cert.Matmul.τ).loc Cert.Matmul.main_arg3)
      ∧ r.2.mem ((c.tc : Thread Cert.Matmul.nD Cert.Matmul.τ).loc Cert.Matmul.main_arg4) = m ((c.tc : Thread Cert.Matmul.nD Cert.Matmul.τ).loc Cert.Matmul.main_arg4))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
      ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3)
      ∧ r.2.mem ((c.tc : Thread Cert.MatmulIdeal.nD Cert.MatmulIdeal.τ).loc Cert.MatmulIdeal.main_arg4) = m ((c.tc : Thread Cert.MatmulIdeal.nD Cert.MatmulIdeal.τ).loc Cert.MatmulIdeal.main_arg4))
      ∧ r.2.sem = fun _ => 0)

def quiescent_MatmulRefIdeal [hMatmulRefIdeal : Cert.MatmulRefIdeal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1)
      ∧ r.2.mem ((c.tc : Thread Cert.MatmulRefIdeal.nD Cert.MatmulRefIdeal.τ).loc Cert.MatmulRefIdeal.main_arg2) = m ((c.tc : Thread Cert.MatmulRefIdeal.nD Cert.MatmulRefIdeal.τ).loc Cert.MatmulRefIdeal.main_arg2)
      ∧ r.2.mem ((c.tc : Thread Cert.MatmulRefIdeal.nD Cert.MatmulRefIdeal.τ).loc Cert.MatmulRefIdeal.main_arg3) = m ((c.tc : Thread Cert.MatmulRefIdeal.nD Cert.MatmulRefIdeal.τ).loc Cert.MatmulRefIdeal.main_arg3)
      ∧ r.2.mem ((c.tc : Thread Cert.MatmulRefIdeal.nD Cert.MatmulRefIdeal.τ).loc Cert.MatmulRefIdeal.main_arg4) = m ((c.tc : Thread Cert.MatmulRefIdeal.nD Cert.MatmulRefIdeal.τ).loc Cert.MatmulRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Quantise_QuantiseRef [hQuantise : Cert.Quantise.Facts] [hQuantiseRef : Cert.QuantiseRef.Facts] : Prop :=
  ∀ (m : (ℓ : Loc Cert.Quantise.nD Cert.Quantise.τ Cert.Quantise.sig) → Buf (Elt Bits) ℓ) (g : Dev Cert.Quantise.nD → PrngReg)
    (m' : (ℓ : Loc Cert.QuantiseRef.nD Cert.QuantiseRef.τ Cert.QuantiseRef.sig) → Buf (Elt Bits) ℓ) (g' : Dev Cert.QuantiseRef.nD → PrngReg), Pre_Quantise m →
    (∀ c : Dev Cert.Quantise.nD,
      m' ((c.tc : Thread Cert.QuantiseRef.nD Cert.QuantiseRef.τ).loc Cert.QuantiseRef.main_arg0) = m ((c.tc : Thread Cert.Quantise.nD Cert.Quantise.τ).loc Cert.Quantise.main_arg0)) →
    ∃ (v0 : (c : Dev Cert.Quantise.nD) → Buf (Elt Bits) ((c.tc : Thread Cert.Quantise.nD Cert.Quantise.τ).loc Cert.Quantise.main_v0_0)) (v1 : (c : Dev Cert.Quantise.nD) → Buf (Elt Bits) ((c.tc : Thread Cert.Quantise.nD Cert.Quantise.τ).loc Cert.Quantise.main_v0_1)) (v2 : (c : Dev Cert.Quantise.nD) → Buf (Elt Bits) ((c.tc : Thread Cert.Quantise.nD Cert.Quantise.τ).loc Cert.Quantise.main_v0_2)),
      θ_run (Cert.Quantise.defs (F := Bits)) (onTc (τ := Cert.Quantise.τ) (Cert.Quantise.main (F := Bits))) ⟨m, fun _ => 0, g⟩ (fun r => ∀ c : Dev Cert.Quantise.nD,
          r.2.mem ((c.tc : Thread Cert.Quantise.nD Cert.Quantise.τ).loc Cert.Quantise.main_v0_0) = v0 c
          ∧ r.2.mem ((c.tc : Thread Cert.Quantise.nD Cert.Quantise.τ).loc Cert.Quantise.main_v0_1) = v1 c
          ∧ r.2.mem ((c.tc : Thread Cert.Quantise.nD Cert.Quantise.τ).loc Cert.Quantise.main_v0_2) = v2 c
          ∧ r.2.mem ((c.tc : Thread Cert.Quantise.nD Cert.Quantise.τ).loc Cert.Quantise.main_arg0) = m ((c.tc : Thread Cert.Quantise.nD Cert.Quantise.τ).loc Cert.Quantise.main_arg0))
      ∧ θ_run (Cert.QuantiseRef.defs (F := Bits)) (onTc (τ := Cert.QuantiseRef.τ) (Cert.QuantiseRef.main (F := Bits))) ⟨m', fun _ => 0, g'⟩ (fun r => ∀ c : Dev Cert.QuantiseRef.nD,
          r.2.mem ((c.tc : Thread Cert.QuantiseRef.nD Cert.QuantiseRef.τ).loc Cert.QuantiseRef.main_v0_0) = v0 c
          ∧ r.2.mem ((c.tc : Thread Cert.QuantiseRef.nD Cert.QuantiseRef.τ).loc Cert.QuantiseRef.main_v0_1) = v1 c
          ∧ r.2.mem ((c.tc : Thread Cert.QuantiseRef.nD Cert.QuantiseRef.τ).loc Cert.QuantiseRef.main_v0_2) = v2 c
          ∧ r.2.mem ((c.tc : Thread Cert.QuantiseRef.nD Cert.QuantiseRef.τ).loc Cert.QuantiseRef.main_arg0) = m' ((c.tc : Thread Cert.QuantiseRef.nD Cert.QuantiseRef.τ).loc Cert.QuantiseRef.main_arg0))

def preserves_Matmul_MatmulIdeal : Prop :=
  True

def algebraic_MatmulIdeal_MatmulRefIdeal [hMatmulIdeal : Cert.MatmulIdeal.Facts] [hMatmulRefIdeal : Cert.MatmulRefIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulRefIdeal.nD Cert.MatmulRefIdeal.τ Cert.MatmulRefIdeal.sig) → Buf (Elt Ideal) ℓ) (g' : Dev Cert.MatmulRefIdeal.nD → PrngReg), Pre_MatmulIdeal m →
    (∀ c : Dev Cert.MatmulIdeal.nD,
      m' ((c.tc : Thread Cert.MatmulRefIdeal.nD Cert.MatmulRefIdeal.τ).loc Cert.MatmulRefIdeal.main_arg0) = m ((c.tc : Thread Cert.MatmulIdeal.nD Cert.MatmulIdeal.τ).loc Cert.MatmulIdeal.main_arg0)
      ∧ m' ((c.tc : Thread Cert.MatmulRefIdeal.nD Cert.MatmulRefIdeal.τ).loc Cert.MatmulRefIdeal.main_arg1) = m ((c.tc : Thread Cert.MatmulIdeal.nD Cert.MatmulIdeal.τ).loc Cert.MatmulIdeal.main_arg1)
      ∧ m' ((c.tc : Thread Cert.MatmulRefIdeal.nD Cert.MatmulRefIdeal.τ).loc Cert.MatmulRefIdeal.main_arg2) = m ((c.tc : Thread Cert.MatmulIdeal.nD Cert.MatmulIdeal.τ).loc Cert.MatmulIdeal.main_arg2)
      ∧ m' ((c.tc : Thread Cert.MatmulRefIdeal.nD Cert.MatmulRefIdeal.τ).loc Cert.MatmulRefIdeal.main_arg3) = m ((c.tc : Thread Cert.MatmulIdeal.nD Cert.MatmulIdeal.τ).loc Cert.MatmulIdeal.main_arg3)
      ∧ m' ((c.tc : Thread Cert.MatmulRefIdeal.nD Cert.MatmulRefIdeal.τ).loc Cert.MatmulRefIdeal.main_arg4) = m ((c.tc : Thread Cert.MatmulIdeal.nD Cert.MatmulIdeal.τ).loc Cert.MatmulIdeal.main_arg4)) →
    ∃ (v0 : (c : Dev Cert.MatmulIdeal.nD) → Buf (Elt Ideal) ((c.tc : Thread Cert.MatmulIdeal.nD Cert.MatmulIdeal.τ).loc Cert.MatmulIdeal.main_v0)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v0) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
          ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
          ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3)
          ∧ r.2.mem ((c.tc : Thread Cert.MatmulIdeal.nD Cert.MatmulIdeal.τ).loc Cert.MatmulIdeal.main_arg4) = m ((c.tc : Thread Cert.MatmulIdeal.nD Cert.MatmulIdeal.τ).loc Cert.MatmulIdeal.main_arg4))
      ∧ θ_run (Cert.MatmulRefIdeal.defs (F := Ideal)) (onTc (τ := Cert.MatmulRefIdeal.τ) (Cert.MatmulRefIdeal.main (F := Ideal))) ⟨m', fun _ => 0, g'⟩ (fun r => ∀ c : Dev Cert.MatmulRefIdeal.nD,
          r.2.mem ((c.tc : Thread Cert.MatmulRefIdeal.nD Cert.MatmulRefIdeal.τ).loc Cert.MatmulRefIdeal.main_v0) = v0 c
          ∧ r.2.mem ((c.tc : Thread Cert.MatmulRefIdeal.nD Cert.MatmulRefIdeal.τ).loc Cert.MatmulRefIdeal.main_arg0) = m' ((c.tc : Thread Cert.MatmulRefIdeal.nD Cert.MatmulRefIdeal.τ).loc Cert.MatmulRefIdeal.main_arg0)
          ∧ r.2.mem ((c.tc : Thread Cert.MatmulRefIdeal.nD Cert.MatmulRefIdeal.τ).loc Cert.MatmulRefIdeal.main_arg1) = m' ((c.tc : Thread Cert.MatmulRefIdeal.nD Cert.MatmulRefIdeal.τ).loc Cert.MatmulRefIdeal.main_arg1)
          ∧ r.2.mem ((c.tc : Thread Cert.MatmulRefIdeal.nD Cert.MatmulRefIdeal.τ).loc Cert.MatmulRefIdeal.main_arg2) = m' ((c.tc : Thread Cert.MatmulRefIdeal.nD Cert.MatmulRefIdeal.τ).loc Cert.MatmulRefIdeal.main_arg2)
          ∧ r.2.mem ((c.tc : Thread Cert.MatmulRefIdeal.nD Cert.MatmulRefIdeal.τ).loc Cert.MatmulRefIdeal.main_arg3) = m' ((c.tc : Thread Cert.MatmulRefIdeal.nD Cert.MatmulRefIdeal.τ).loc Cert.MatmulRefIdeal.main_arg3)
          ∧ r.2.mem ((c.tc : Thread Cert.MatmulRefIdeal.nD Cert.MatmulRefIdeal.τ).loc Cert.MatmulRefIdeal.main_arg4) = m' ((c.tc : Thread Cert.MatmulRefIdeal.nD Cert.MatmulRefIdeal.τ).loc Cert.MatmulRefIdeal.main_arg4))

def Claim : Prop :=
  ∃ (hKernel : Cert.Kernel.Facts) (hKernelIdeal : Cert.KernelIdeal.Facts) (hReferenceIdeal : Cert.ReferenceIdeal.Facts) (hQuantise : Cert.Quantise.Facts) (hQuantiseRef : Cert.QuantiseRef.Facts) (hMatmul : Cert.Matmul.Facts) (hMatmulIdeal : Cert.MatmulIdeal.Facts) (hMatmulRefIdeal : Cert.MatmulRefIdeal.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseRef (hQuantiseRef := hQuantiseRef)
    ∧ quiescent_Matmul (hMatmul := hMatmul)
    ∧ quiescent_MatmulIdeal (hMatmulIdeal := hMatmulIdeal)
    ∧ quiescent_MatmulRefIdeal (hMatmulRefIdeal := hMatmulRefIdeal)
    ∧ preserves_Kernel_KernelIdeal
    ∧ algebraic_KernelIdeal_ReferenceIdeal (hKernelIdeal := hKernelIdeal) (hReferenceIdeal := hReferenceIdeal)
    ∧ bitexact_Quantise_QuantiseRef (hQuantise := hQuantise) (hQuantiseRef := hQuantiseRef)
    ∧ preserves_Matmul_MatmulIdeal
    ∧ algebraic_MatmulIdeal_MatmulRefIdeal (hMatmulIdeal := hMatmulIdeal) (hMatmulRefIdeal := hMatmulRefIdeal)
-- ==== Kernel.lean ====
abbrev S3x1024x6144 : Shape := ⟨3, ![3, 1024, 6144]⟩
abbrev S6144x8704 : Shape := ⟨2, ![6144, 8704]⟩
abbrev S8704 : Shape := ⟨1, ![8704]⟩
abbrev S3072x1 : Shape := ⟨2, ![3072, 1]⟩
abbrev S3x1x1024 : Shape := ⟨3, ![3, 1, 1024]⟩
abbrev S1x256x6144 : Shape := ⟨3, ![1, 256, 6144]⟩
abbrev S256x1 : Shape := ⟨2, ![256, 1]⟩
abbrev S1x1x256 : Shape := ⟨3, ![1, 1, 256]⟩
abbrev S256x6144 : Shape := ⟨2, ![256, 6144]⟩
abbrev S256 : Shape := ⟨1, ![256]⟩
abbrev S256x128 : Shape := ⟨2, ![256, 128]⟩
abbrev S128x256 : Shape := ⟨2, ![128, 256]⟩
abbrev S1x256 : Shape := ⟨2, ![1, 256]⟩
abbrev S384x8x8704 : Shape := ⟨3, ![384, 8, 8704]⟩
abbrev S6144x512 : Shape := ⟨2, ![6144, 512]⟩
abbrev S384x8x512 : Shape := ⟨3, ![384, 8, 512]⟩
abbrev S512 : Shape := ⟨1, ![512]⟩
abbrev S1x512 : Shape := ⟨2, ![1, 512]⟩
abbrev S1x512x6144 : Shape := ⟨3, ![1, 512, 6144]⟩
abbrev S512x6144 : Shape := ⟨2, ![512, 6144]⟩
abbrev S512x512 : Shape := ⟨2, ![512, 512]⟩
abbrev S512x1 : Shape := ⟨2, ![512, 1]⟩
abbrev S64x8x512 : Shape := ⟨3, ![64, 8, 512]⟩

abbrev nBuf : Space → Nat
  | .hbm => 8
  | .vmem => 16
  | .smem => 0
  | _ => 0

abbrev bufTy : (tb : Table) → Fin (tcTables nBuf tb) → BufTy
  | .hbm, ⟨0, _⟩ => ⟨S3x1024x6144, .bf16⟩
  | .hbm, ⟨1, _⟩ => ⟨S6144x8704, .fp8e4m3⟩
  | .hbm, ⟨2, _⟩ => ⟨S8704, .f32⟩
  | .hbm, ⟨3, _⟩ => ⟨S8704, .f32⟩
  | .hbm, ⟨4, _⟩ => ⟨S3x1024x6144, .fp8e4m3⟩
  | .hbm, ⟨5, _⟩ => ⟨S3072x1, .f32⟩
  | .hbm, ⟨6, _⟩ => ⟨S3x1x1024, .f32⟩
  | .hbm, ⟨7, _⟩ => ⟨S384x8x8704, .bf16⟩
  | .local _ .vmem, ⟨0, _⟩ => ⟨S1x256x6144, .bf16⟩
  | .local _ .vmem, ⟨1, _⟩ => ⟨S1x256x6144, .bf16⟩
  | .local _ .vmem, ⟨2, _⟩ => ⟨S1x256x6144, .fp8e4m3⟩
  | .local _ .vmem, ⟨3, _⟩ => ⟨S1x256x6144, .fp8e4m3⟩
  | .local _ .vmem, ⟨4, _⟩ => ⟨S256x1, .f32⟩
  | .local _ .vmem, ⟨5, _⟩ => ⟨S256x1, .f32⟩
  | .local _ .vmem, ⟨6, _⟩ => ⟨S1x1x256, .f32⟩
  | .local _ .vmem, ⟨7, _⟩ => ⟨S1x1x256, .f32⟩
  | .local _ .vmem, ⟨8, _⟩ => ⟨S3x1024x6144, .fp8e4m3⟩
  | .local _ .vmem, ⟨9, _⟩ => ⟨S3072x1, .f32⟩
  | .local _ .vmem, ⟨10, _⟩ => ⟨S6144x512, .fp8e4m3⟩
  | .local _ .vmem, ⟨11, _⟩ => ⟨S6144x512, .fp8e4m3⟩
  | .local _ .vmem, ⟨12, _⟩ => ⟨S8704, .f32⟩
  | .local _ .vmem, ⟨13, _⟩ => ⟨S8704, .f32⟩
  | .local _ .vmem, ⟨14, _⟩ => ⟨S384x8x512, .bf16⟩
  | .local _ .vmem, ⟨15, _⟩ => ⟨S384x8x512, .bf16⟩
  | _, _ => ⟨S3x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![17], ![false]⟩

def k1_mult1 (i : grid1.Coords) : BitVec 32 :=
  let arg0 : BitVec 32 := BitVec.ofNat 32 (i 0).val
  let c512_i32 : BitVec 32 := 512#32
  let v1 : BitVec 32 := Scalar.muli arg0 c512_i32
  v1
def k1_off1 (i : grid1.Coords) : Fin 1 → Nat :=
  let arg0 : BitVec 32 := BitVec.ofNat 32 (i 0).val
  let c512_i32 : BitVec 32 := 512#32
  let v1 : BitVec 32 := Scalar.muli arg0 c512_i32
  let v2 : BitVec 32 := v1
  let v3 : Index := Scalar.indexCast v2
  ![v3.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S3x1024x6144 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3072x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6144x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8704 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8704 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S384x8x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S3x1024x6144 : Shape := ⟨3, ![3, 1024, 6144]⟩
abbrev S6144x8704 : Shape := ⟨2, ![6144, 8704]⟩
abbrev S8704 : Shape := ⟨1, ![8704]⟩
abbrev S384x8x8704 : Shape := ⟨3, ![384, 8, 8704]⟩
abbrev S3x1x1024 : Shape := ⟨3, ![3, 1, 1024]⟩
abbrev S3x1024 : Shape := ⟨2, ![3, 1024]⟩
abbrev S3x1024x1 : Shape := ⟨3, ![3, 1024, 1]⟩
abbrev S3x1024x8704 : Shape := ⟨3, ![3, 1024, 8704]⟩
abbrev S1x1x8704 : Shape := ⟨3, ![1, 1, 8704]⟩

abbrev nBuf : Space → Nat
  | .hbm => 7
  | .vmem => 7
  | .smem => 0
  | _ => 0

abbrev bufTy : (tb : Table) → Fin (tcTables nBuf tb) → BufTy
  | .hbm, ⟨0, _⟩ => ⟨S3x1024x6144, .bf16⟩
  | .hbm, ⟨1, _⟩ => ⟨S6144x8704, .fp8e4m3⟩
  | .hbm, ⟨2, _⟩ => ⟨S8704, .f32⟩
  | .hbm, ⟨3, _⟩ => ⟨S8704, .f32⟩
  | .hbm, ⟨4, _⟩ => ⟨S384x8x8704, .bf16⟩
  | .hbm, ⟨5, _⟩ => ⟨S3x1024x6144, .fp8e4m3⟩
  | .hbm, ⟨6, _⟩ => ⟨S3x1x1024, .f32⟩
  | .local _ .vmem, ⟨0, _⟩ => ⟨S3x1024x6144, .bf16⟩
  | .local _ .vmem, ⟨1, _⟩ => ⟨S6144x8704, .fp8e4m3⟩
  | .local _ .vmem, ⟨2, _⟩ => ⟨S8704, .f32⟩
  | .local _ .vmem, ⟨3, _⟩ => ⟨S8704, .f32⟩
  | .local _ .vmem, ⟨4, _⟩ => ⟨S384x8x8704, .bf16⟩
  | .local _ .vmem, ⟨5, _⟩ => ⟨S3x1024x6144, .fp8e4m3⟩
  | .local _ .vmem, ⟨6, _⟩ => ⟨S3x1x1024, .f32⟩
  | _, _ => ⟨S3x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x1024x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x8704 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x8x8704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quantise.lean ====
abbrev S3x1024x6144 : Shape := ⟨3, ![3, 1024, 6144]⟩
abbrev S3072x1 : Shape := ⟨2, ![3072, 1]⟩
abbrev S3x1x1024 : Shape := ⟨3, ![3, 1, 1024]⟩
abbrev S1x256x6144 : Shape := ⟨3, ![1, 256, 6144]⟩
abbrev S256x1 : Shape := ⟨2, ![256, 1]⟩
abbrev S1x1x256 : Shape := ⟨3, ![1, 1, 256]⟩
abbrev S256x6144 : Shape := ⟨2, ![256, 6144]⟩
abbrev S256 : Shape := ⟨1, ![256]⟩
abbrev S256x128 : Shape := ⟨2, ![256, 128]⟩
abbrev S128x256 : Shape := ⟨2, ![128, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S3x1024x6144, .bf16⟩
  | .hbm, ⟨1, _⟩ => ⟨S3x1024x6144, .fp8e4m3⟩
  | .hbm, ⟨2, _⟩ => ⟨S3072x1, .f32⟩
  | .hbm, ⟨3, _⟩ => ⟨S3x1x1024, .f32⟩
  | .local _ .vmem, ⟨0, _⟩ => ⟨S1x256x6144, .bf16⟩
  | .local _ .vmem, ⟨1, _⟩ => ⟨S1x256x6144, .bf16⟩
  | .local _ .vmem, ⟨2, _⟩ => ⟨S1x256x6144, .fp8e4m3⟩
  | .local _ .vmem, ⟨3, _⟩ => ⟨S1x256x6144, .fp8e4m3⟩
  | .local _ .vmem, ⟨4, _⟩ => ⟨S256x1, .f32⟩
  | .local _ .vmem, ⟨5, _⟩ => ⟨S256x1, .f32⟩
  | .local _ .vmem, ⟨6, _⟩ => ⟨S1x1x256, .f32⟩
  | .local _ .vmem, ⟨7, _⟩ => ⟨S1x1x256, .f32⟩
  | _, _ => ⟨S3x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QuantiseRef.lean ====
abbrev S3x1024x6144 : Shape := ⟨3, ![3, 1024, 6144]⟩
abbrev S3072x1 : Shape := ⟨2, ![3072, 1]⟩
abbrev S3x1x1024 : Shape := ⟨3, ![3, 1, 1024]⟩
abbrev S3x1024 : Shape := ⟨2, ![3, 1024]⟩
abbrev S3x1024x1 : Shape := ⟨3, ![3, 1024, 1]⟩

abbrev nBuf : Space → Nat
  | .hbm => 4
  | .vmem => 4
  | .smem => 0
  | _ => 0

abbrev bufTy : (tb : Table) → Fin (tcTables nBuf tb) → BufTy
  | .hbm, ⟨0, _⟩ => ⟨S3x1024x6144, .bf16⟩
  | .hbm, ⟨1, _⟩ => ⟨S3x1024x6144, .fp8e4m3⟩
  | .hbm, ⟨2, _⟩ => ⟨S3072x1, .f32⟩
  | .hbm, ⟨3, _⟩ => ⟨S3x1x1024, .f32⟩
  | .local _ .vmem, ⟨0, _⟩ => ⟨S3x1024x6144, .bf16⟩
  | .local _ .vmem, ⟨1, _⟩ => ⟨S3x1024x6144, .fp8e4m3⟩
  | .local _ .vmem, ⟨2, _⟩ => ⟨S3072x1, .f32⟩
  | .local _ .vmem, ⟨3, _⟩ => ⟨S3x1x1024, .f32⟩
  | _, _ => ⟨S3x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S3x1024x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Matmul.lean ====
abbrev S3x1024x6144 : Shape := ⟨3, ![3, 1024, 6144]⟩
abbrev S3072x1 : Shape := ⟨2, ![3072, 1]⟩
abbrev S6144x8704 : Shape := ⟨2, ![6144, 8704]⟩
abbrev S8704 : Shape := ⟨1, ![8704]⟩
abbrev S384x8x8704 : Shape := ⟨3, ![384, 8, 8704]⟩
abbrev S6144x512 : Shape := ⟨2, ![6144, 512]⟩
abbrev S384x8x512 : Shape := ⟨3, ![384, 8, 512]⟩
abbrev S512 : Shape := ⟨1, ![512]⟩
abbrev S1x512 : Shape := ⟨2, ![1, 512]⟩
abbrev S1x512x6144 : Shape := ⟨3, ![1, 512, 6144]⟩
abbrev S512x6144 : Shape := ⟨2, ![512, 6144]⟩
abbrev S512x512 : Shape := ⟨2, ![512, 512]⟩
abbrev S512x1 : Shape := ⟨2, ![512, 1]⟩
abbrev S64x8x512 : Shape := ⟨3, ![64, 8, 512]⟩

abbrev nBuf : Space → Nat
  | .hbm => 6
  | .vmem => 8
  | .smem => 0
  | _ => 0

abbrev bufTy : (tb : Table) → Fin (tcTables nBuf tb) → BufTy
  | .hbm, ⟨0, _⟩ => ⟨S3x1024x6144, .fp8e4m3⟩
  | .hbm, ⟨1, _⟩ => ⟨S3072x1, .f32⟩
  | .hbm, ⟨2, _⟩ => ⟨S6144x8704, .fp8e4m3⟩
  | .hbm, ⟨3, _⟩ => ⟨S8704, .f32⟩
  | .hbm, ⟨4, _⟩ => ⟨S8704, .f32⟩
  | .hbm, ⟨5, _⟩ => ⟨S384x8x8704, .bf16⟩
  | .local _ .vmem, ⟨0, _⟩ => ⟨S3x1024x6144, .fp8e4m3⟩
  | .local _ .vmem, ⟨1, _⟩ => ⟨S3072x1, .f32⟩
  | .local _ .vmem, ⟨2, _⟩ => ⟨S6144x512, .fp8e4m3⟩
  | .local _ .vmem, ⟨3, _⟩ => ⟨S6144x512, .fp8e4m3⟩
  | .local _ .vmem, ⟨4, _⟩ => ⟨S8704, .f32⟩
  | .local _ .vmem, ⟨5, _⟩ => ⟨S8704, .f32⟩
  | .local _ .vmem, ⟨6, _⟩ => ⟨S384x8x512, .bf16⟩
  | .local _ .vmem, ⟨7, _⟩ => ⟨S384x8x512, .bf16⟩
  | _, _ => ⟨S3x1024x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![17], ![false]⟩

def k0_mult1 (i : grid0.Coords) : BitVec 32 :=
  let arg0 : BitVec 32 := BitVec.ofNat 32 (i 0).val
  let c512_i32 : BitVec 32 := 512#32
  let v1 : BitVec 32 := Scalar.muli arg0 c512_i32
  v1
def k0_off1 (i : grid0.Coords) : Fin 1 → Nat :=
  let arg0 : BitVec 32 := BitVec.ofNat 32 (i 0).val
  let c512_i32 : BitVec 32 := 512#32
  let v1 : BitVec 32 := Scalar.muli arg0 c512_i32
  let v2 : BitVec 32 := v1
  let v3 : Index := Scalar.indexCast v2
  ![v3.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S3x1024x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6144x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x8x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MatmulRefIdeal.lean ====
abbrev S3x1024x6144 : Shape := ⟨3, ![3, 1024, 6144]⟩
abbrev S3072x1 : Shape := ⟨2, ![3072, 1]⟩
abbrev S6144x8704 : Shape := ⟨2, ![6144, 8704]⟩
abbrev S8704 : Shape := ⟨1, ![8704]⟩
abbrev S384x8x8704 : Shape := ⟨3, ![384, 8, 8704]⟩
abbrev S3x1024x1 : Shape := ⟨3, ![3, 1024, 1]⟩
abbrev S3x1024x8704 : Shape := ⟨3, ![3, 1024, 8704]⟩
abbrev S1x1x8704 : Shape := ⟨3, ![1, 1, 8704]⟩

abbrev nBuf : Space → Nat
  | .hbm => 6
  | .vmem => 6
  | .smem => 0
  | _ => 0

abbrev bufTy : (tb : Table) → Fin (tcTables nBuf tb) → BufTy
  | .hbm, ⟨0, _⟩ => ⟨S3x1024x6144, .fp8e4m3⟩
  | .hbm, ⟨1, _⟩ => ⟨S3072x1, .f32⟩
  | .hbm, ⟨2, _⟩ => ⟨S6144x8704, .fp8e4m3⟩
  | .hbm, ⟨3, _⟩ => ⟨S8704, .f32⟩
  | .hbm, ⟨4, _⟩ => ⟨S8704, .f32⟩
  | .hbm, ⟨5, _⟩ => ⟨S384x8x8704, .bf16⟩
  | .local _ .vmem, ⟨0, _⟩ => ⟨S3x1024x6144, .fp8e4m3⟩
  | .local _ .vmem, ⟨1, _⟩ => ⟨S3072x1, .f32⟩
  | .local _ .vmem, ⟨2, _⟩ => ⟨S6144x8704, .fp8e4m3⟩
  | .local _ .vmem, ⟨3, _⟩ => ⟨S8704, .f32⟩
  | .local _ .vmem, ⟨4, _⟩ => ⟨S8704, .f32⟩
  | .local _ .vmem, ⟨5, _⟩ => ⟨S384x8x8704, .bf16⟩
  | _, _ => ⟨S3x1024x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x1024x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x8704 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x8x8704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.MatmulTile.lean ====
/-
  One tile of the matmul kernel, read at an index on the extended reals.

  The kernel stores six tiles of 64 × 8 rows by 512 columns per grid point.  Each is the product of 512 rows of
  codes with a block of 512 weight columns, scaled by the rows' scales and the columns' scales, plus the bias.
  `tile` is the tile as the first store states it; the other five stores state the same term split in other places.
-/
module

public import proofs.«01_k».proof.Defs
public import proofs.«01_k».proof.Proof.Gen.MatmulIdeal.Value
public import Idealize.ShloMosaic.Lib.Pointwise

@[expose] public section

set_option maxRecDepth 16384

noncomputable section

namespace Cert.MatmulIdeal.Tile

open Cert.MatmulIdeal Cert.MatmulIdeal.Gen Idealize.ShloMosaic Idealize.ShloMosaic.TcCoe

/-- The tile of a weight block `w`, column scales `ws`, biases `b`, 512 rows of codes `x` and their scales `xs`. -/
abbrev tile (w : Vec Ideal S6144x512 .fp8e4m3) (ws b : Vec Ideal S512 .f32) (x : Vec Ideal S1x512x6144 .fp8e4m3)
    (xs : Vec Ideal S512x1 .f32) : Vec Ideal S64x8x512 .bf16 := k0_pay5 (F := Ideal) w ws b x xs

/-- A tile at an index: row `8 p + q` of the codes times column `n` of the weights, scaled and biased. -/
theorem tile_apply (w : Vec Ideal S6144x512 .fp8e4m3) (ws b : Vec Ideal S512 .f32) (x : Vec Ideal S1x512x6144 .fp8e4m3)
    (xs : Vec Ideal S512x1 .f32) (p : Fin 64) (q : Fin 8) (n : Fin 512) (r : Fin 512) (hr : r.val = 8 * p.val + q.val) :
    tile w ws b x xs (ix3 p q n)
      = ((∑ k : Fin 6144, x (ix3 0 r k) * w (ix2 k n) : EReal) * xs (ix2 r 0) * ws (ix1 n) + b (ix1 n) : EReal) := by
  have hb : p.val * 8 + q.val < 512 := by omega
  have e : r = ⟨p.val * 8 + q.val, hb⟩ := Fin.ext (by dsimp only; omega)
  subst e
  unfold tile k0_pay5 k0_pay3 k0_pay4
  simp only [pointwise]
  simp

end Cert.MatmulIdeal.Tile
-- ==== Proof.MatmulBlock.lean ====
/-
  One block of the matmul kernel: what the six stores of a grid point leave in the result's staging buffer.

  The block is 384 × 8 rows by 512 columns.  `block` states it as one function of the row and the column; each of
  the six stored tiles is the part of it that its rectangle names, and the six rectangles cover the block.
-/
module

public import proofs.«01_k».proof.Proof.MatmulTile

@[expose] public section

set_option maxRecDepth 16384

noncomputable section

namespace Cert.MatmulIdeal.Tile

open Cert.MatmulIdeal Cert.MatmulIdeal.Gen Idealize.ShloMosaic Idealize.ShloMosaic.TcCoe

/-- Grid point `i` reads the column scales and the biases from column `512 i` on. -/
theorem off_eq (i : grid0.Coords) : k0_off1 i = ![512 * (i 0).val] := by
  have key : ∀ k : Fin 17, (Scalar.indexCast (Scalar.muli (BitVec.ofNat 32 k.val) (512#32))).toNat = 512 * k.val := by
    decide +kernel
  show ![(Scalar.indexCast (Scalar.muli (BitVec.ofNat 32 (i 0).val) (512#32))).toNat] = _
  rw [key (i 0)]

/-- One entry of the product: row `r` (row `s` of batch `i`), scaled and biased; `ws` and `b` at the entry's column. -/
def entry (x : Vec Ideal S3x1024x6144 .fp8e4m3) (xs : Vec Ideal S3072x1 .f32) (w : Fin 6144 → EReal) (ws b : EReal)
    (r : Fin 3072) : EReal :=
  (∑ k : Fin 6144, x (ix3 (⟨r.val / 1024, by omega⟩ : Fin 3) (⟨r.val % 1024, by omega⟩ : Fin 1024) k) * w k) * xs (ix2 r 0)
    * ws + b

/-- The row an index of the result's first two axes names. -/
def row (p : Fin 384) (q : Fin 8) : Fin 3072 := ⟨8 * p.val + q.val, by omega⟩

/-- The block of the column block that starts at column `o`. -/
def block (o : Nat) (ho : o + 512 ≤ 8704) (x : Vec Ideal S3x1024x6144 .fp8e4m3) (xs : Vec Ideal S3072x1 .f32)
    (w : Vec Ideal S6144x512 .fp8e4m3) (ws b : Vec Ideal S8704 .f32) : Vec Ideal S384x8x512 .bf16 := fun y =>
  entry x xs (fun k => w (ix2 k (y 2))) (ws (ix1 (⟨o + (y 2).val, by have : (y 2).val < 512 := (y 2).isLt; omega⟩ : Fin 8704)))
    (b (ix1 (⟨o + (y 2).val, by have : (y 2).val < 512 := (y 2).isLt; omega⟩ : Fin 8704))) (row (y 0) (y 1))

/-- The tile that starts at row `e` (row `s` of batch `a`) is the block's part from row group `d` on. -/
theorem tile_eq_block (a s e d : Nat) (he : e = a * 1024 + s) (hd : e = 8 * d) (hs : s + 512 ≤ 1024)
    (o : Nat) (ho : o + 512 ≤ 8704) (off : Fin 1 → Nat) (hoff : off = ![o])
    (x : Vec Ideal S3x1024x6144 .fp8e4m3) (xs : Vec Ideal S3072x1 .f32) (w : Vec Ideal S6144x512 .fp8e4m3)
    (ws b : Vec Ideal S8704 .f32) (inb1 inb2 inb3 inb4)
    (z : S64x8x512.Idx) :
    tile w (View.ld (Val := Elt Ideal) (e' := .f32) ws (Rect.unit (s := S8704) off S512.size inb3))
        (View.ld (Val := Elt Ideal) (e' := .f32) b (Rect.unit (s := S8704) off S512.size inb3))
        (View.ld (Val := Elt Ideal) (e' := .fp8e4m3) x (Rect.unit (s := S3x1024x6144) ![a, s, 0] S1x512x6144.size inb1))
        (View.ld (Val := Elt Ideal) (e' := .f32) xs (Rect.unit (s := S3072x1) ![e, 0] S512x1.size inb2)) z
      = block o ho x xs w ws b ((Rect.unit (s := S384x8x512) ![d, 0, 0] S64x8x512.size inb4).emb z) := by
  subst hoff
  idx_vars z
  have ha : a < 3 := by have h : a + 1 ≤ 3 := inb1 0; omega
  rw [tile_apply _ _ _ _ _ z0 z1 z2 ⟨8 * z0.val + z1.val, by omega⟩ rfl]
  have hn : z2.val < 512 := z2.isLt
  have hr : 8 * (d + z0.val) + z1.val < 3072 := by omega
  have e0 : row ((Rect.unit (s := S384x8x512) ![d, 0, 0] S64x8x512.size inb4).emb (ix3 z0 z1 z2) 0)
      ((Rect.unit (s := S384x8x512) ![d, 0, 0] S64x8x512.size inb4).emb (ix3 z0 z1 z2) 1) = ⟨8 * (d + z0.val) + z1.val, hr⟩ := by
    apply Fin.ext
    show 8 * (d + 1 * z0.val) + (0 + 1 * z1.val) = 8 * (d + z0.val) + z1.val
    omega
  unfold block entry
  rw [e0]
  congr 1
  · congr 1
    · congr 1
      · refine Finset.sum_congr rfl fun k _ => ?_
        congr 1
        · refine congrArg x (funext fun c => Fin.ext ?_)
          match c with
          | ⟨0, _⟩ => show a + 1 * 0 = (8 * (d + z0.val) + z1.val) / 1024; omega
          | ⟨1, _⟩ => show s + 1 * (8 * z0.val + z1.val) = (8 * (d + z0.val) + z1.val) % 1024; omega
          | ⟨2, _⟩ => show 0 + 1 * k.val = k.val; omega
        · refine congrArg w (funext fun c => Fin.ext ?_)
          match c with
          | ⟨0, _⟩ => show k.val = k.val; rfl
          | ⟨1, _⟩ => show z2.val = 0 + 1 * z2.val; omega
      · refine congrArg xs (funext fun c => Fin.ext ?_)
        match c with
        | ⟨0, _⟩ => show e + 1 * (8 * z0.val + z1.val) = 8 * (d + z0.val) + z1.val; omega
        | ⟨1, _⟩ => show 0 + 1 * 0 = 0; omega
    · refine congrArg ws (funext fun c => Fin.ext ?_)
      match c with
      | ⟨0, _⟩ => show o + 1 * z2.val = o + (0 + 1 * z2.val); omega
  · refine congrArg b (funext fun c => Fin.ext ?_)
    match c with
    | ⟨0, _⟩ => show o + 1 * z2.val = o + (0 + 1 * z2.val); omega

theorem hz2 : (![0, 0] : Fin 2 → Nat) = fun _ => 0 := funext fun a => by fin_cases a <;> rfl

/-- What the body leaves in the result's staging buffer, from the blocks it loads, is `block`. -/
theorem out_eq (c : Dev nD) (i : grid0.Coords) (a1 : Memref sig .tc .vmem S3x1024x6144 .fp8e4m3) (h1 : a1.IsWhole)
    (a2 : Memref sig .tc .vmem S3072x1 .f32) (h2 : a2.IsWhole) (a3 : Memref sig .tc .vmem S6144x512 .fp8e4m3) (h3 : a3.IsWhole)
    (a4 : Memref sig .tc .vmem S8704 .f32) (h4 : a4.IsWhole) (a5 : Memref sig .tc .vmem S8704 .f32) (h5 : a5.IsWhole)
    (a6 : Memref sig .tc .vmem S384x8x512 .bf16) (h6 : a6.IsWhole)
    (x : Vec Ideal S3x1024x6144 .fp8e4m3) (xs : Vec Ideal S3072x1 .f32) (w : Vec Ideal S6144x512 .fp8e4m3)
    (ws b : Vec Ideal S8704 .f32) (ho : 512 * (i 0).val + 512 ≤ 8704) :
    out0_A_5 (F := Ideal) c i a1 h1 a2 h2 a3 h3 a4 h4 a5 h5 a6 h6 x xs w ws b
      = block (512 * (i 0).val) ho x xs w ws b := by
  funext y
  unfold out0_A_5
  rw [View.read_writes_eq_canon _ _ _ (cover0_A_5 c i a1 h1 a2 h2 a3 h3 a4 h4 a5 h5 a6 h6 x xs w ws b)]
  refine View.canon_apply_of_pieces _ _ ?_ y (cover0_A_5 c i a1 h1 a2 h2 a3 h3 a4 h4 a5 h5 a6 h6 x xs w ws b y)
  unfold kernelRun0_A
  dsimp only
  sl_unfold_words
  simp only [View.readAt_eq_ld, h1.read_unread, h2.read_unread, h3.read_unread, h4.read_unread, h5.read_unread,
    View.ld_unit_zero (S := S6144x512) hz2]
  intro p hp
  simp only [List.mem_cons, List.not_mem_nil, or_false] at hp
  rcases hp with rfl | rfl | rfl | rfl | rfl | rfl <;> intro z
  · exact tile_eq_block 2 512 2560 320 rfl rfl (by decide) _ ho _ (off_eq i) x xs w ws b inb_S3x1024x6144_S1x512x6144_2_512_0
      inb_S3072x1_S512x1_2560_0 (k0_off1_inb i) inb_S384x8x512_S64x8x512_320_0_0 z
  · exact tile_eq_block 2 0 2048 256 rfl rfl (by decide) _ ho _ (off_eq i) x xs w ws b inb_S3x1024x6144_S1x512x6144_2_0_0
      inb_S3072x1_S512x1_2048_0 (k0_off1_inb i) inb_S384x8x512_S64x8x512_256_0_0 z
  · exact tile_eq_block 1 512 1536 192 rfl rfl (by decide) _ ho _ (off_eq i) x xs w ws b inb_S3x1024x6144_S1x512x6144_1_512_0
      inb_S3072x1_S512x1_1536_0 (k0_off1_inb i) inb_S384x8x512_S64x8x512_192_0_0 z
  · exact tile_eq_block 1 0 1024 128 rfl rfl (by decide) _ ho _ (off_eq i) x xs w ws b inb_S3x1024x6144_S1x512x6144_1_0_0
      inb_S3072x1_S512x1_1024_0 (k0_off1_inb i) inb_S384x8x512_S64x8x512_128_0_0 z
  · exact tile_eq_block 0 512 512 64 rfl rfl (by decide) _ ho _ (off_eq i) x xs w ws b inb_S3x1024x6144_S1x512x6144_0_512_0
      inb_S3072x1_S512x1_512_0 (k0_off1_inb i) inb_S384x8x512_S64x8x512_64_0_0 z
  · exact tile_eq_block 0 0 0 0 rfl rfl (by decide) _ ho _ (off_eq i) x xs w ws b inb_S3x1024x6144_S1x512x6144_0_0_0
      inb_S3072x1_S512x1_0_0 (k0_off1_inb i) inb_S384x8x512_S64x8x512_0_0_0 z

end Cert.MatmulIdeal.Tile
-- ==== Proof.MatmulArray.lean ====
/-
  The matmul kernel's result array: the blocks of the 17 grid points are the column blocks of one array.
-/
module

public import proofs.«01_k».proof.Proof.MatmulBlock

@[expose] public section

set_option maxRecDepth 16384

noncomputable section

namespace Cert.MatmulIdeal.Tile

open Cert.MatmulIdeal Cert.MatmulIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The whole result: every entry of the product, scaled and biased. -/
def result (x : Vec Ideal S3x1024x6144 .fp8e4m3) (xs : Vec Ideal S3072x1 .f32) (w : Vec Ideal S6144x8704 .fp8e4m3)
    (ws b : Vec Ideal S8704 .f32) : Vec Ideal S384x8x8704 .bf16 := fun y =>
  entry x xs (fun k => w (ix2 k (y 2))) (ws (ix1 (y 2))) (b (ix1 (y 2))) (row (y 0) (y 1))

/-- The block indices of every window, as functions of the grid point. -/
theorem idx_closed : ∀ t : Fin grid0.N,
    (win0_0.index t 0 = 0 ∧ win0_0.index t 1 = 0 ∧ win0_0.index t 2 = 0) ∧ (win0_1.index t 0 = 0 ∧ win0_1.index t 1 = 0)
    ∧ (win0_2.index t 0 = 0 ∧ win0_2.index t 1 = t.val) ∧ win0_3.index t 0 = 0 ∧ win0_4.index t 0 = 0
    ∧ (win0_5.index t 0 = 0 ∧ win0_5.index t 1 = 0 ∧ win0_5.index t 2 = t.val) ∧ (grid0.coords t 0).val = t.val := by
  decide +kernel

theorem iblk0_eq (c : Dev nD) (t : Fin cfg0.N) : iblk m c 0 t = m ((c : Thread nD τ).loc main_arg0) := by
  obtain ⟨⟨e0, e1, e2⟩, -⟩ := idx_closed t
  funext j
  refine congrArg (m ((c : Thread nD τ).loc main_arg0)) (funext fun a => Fin.ext ?_)
  match a with
  | ⟨0, _⟩ => show win0_0.index t 0 * 3 + 1 * (j 0).val = (j 0).val; rw [e0]; omega
  | ⟨1, _⟩ => show win0_0.index t 1 * 1024 + 1 * (j 1).val = (j 1).val; rw [e1]; omega
  | ⟨2, _⟩ => show win0_0.index t 2 * 6144 + 1 * (j 2).val = (j 2).val; rw [e2]; omega

theorem iblk1_eq (c : Dev nD) (t : Fin cfg0.N) : iblk m c 1 t = m ((c : Thread nD τ).loc main_arg1) := by
  obtain ⟨-, ⟨e0, e1⟩, -⟩ := idx_closed t
  funext j
  refine congrArg (m ((c : Thread nD τ).loc main_arg1)) (funext fun a => Fin.ext ?_)
  match a with
  | ⟨0, _⟩ => show win0_1.index t 0 * 3072 + 1 * (j 0).val = (j 0).val; rw [e0]; omega
  | ⟨1, _⟩ => show win0_1.index t 1 * 1 + 1 * (j 1).val = (j 1).val; rw [e1]; omega

theorem iblk3_eq (c : Dev nD) (t : Fin cfg0.N) : iblk m c 3 t = m ((c : Thread nD τ).loc main_arg3) := by
  obtain ⟨-, -, -, e0, -⟩ := idx_closed t
  funext j
  refine congrArg (m ((c : Thread nD τ).loc main_arg3)) (funext fun a => Fin.ext ?_)
  match a with
  | ⟨0, _⟩ => show win0_3.index t 0 * 8704 + 1 * (j 0).val = (j 0).val; rw [e0]; omega

theorem iblk4_eq (c : Dev nD) (t : Fin cfg0.N) : iblk m c 4 t = m ((c : Thread nD τ).loc main_arg4) := by
  obtain ⟨-, -, -, -, e0, -⟩ := idx_closed t
  funext j
  refine congrArg (m ((c : Thread nD τ).loc main_arg4)) (funext fun a => Fin.ext ?_)
  match a with
  | ⟨0, _⟩ => show win0_4.index t 0 * 8704 + 1 * (j 0).val = (j 0).val; rw [e0]; omega

/-- The weight block of point `t`: columns `512 t` on. -/
theorem iblk2_apply (c : Dev nD) (t : Fin cfg0.N) (k : Fin 6144) (n : Fin 512) (n' : Fin 8704)
    (hn : n'.val = t.val * 512 + n.val) :
    iblk m c 2 t (ix2 k n) = m ((c : Thread nD τ).loc main_arg2) (ix2 k n') := by
  obtain ⟨-, -, ⟨e0, e1⟩, -⟩ := idx_closed t
  refine congrArg (m ((c : Thread nD τ).loc main_arg2)) (funext fun a => Fin.ext ?_)
  match a with
  | ⟨0, _⟩ => show win0_2.index t 0 * 6144 + 1 * k.val = k.val; rw [e0]; omega
  | ⟨1, _⟩ => show win0_2.index t 1 * 512 + 1 * n.val = n'.val; rw [e1, hn]; omega

/-- The whole result of device `c`'s arguments. -/
abbrev res (c : Dev nD) : Vec Ideal S384x8x8704 .bf16 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its column block of the whole result. -/
theorem flushed_eq (c : Dev nD) (t : Fin cfg0.N) :
    (dats m 0 c).flushed 5 t = ((cfg0.win 5).blk t).view.read (Elt Ideal) (res m c) := by
  obtain ⟨-, -, -, -, -, ⟨e0, e1, e2⟩, et⟩ := idx_closed t
  have ht : t.val < 17 := lt_of_lt_of_eq t.isLt Gen.N_0
  have ho : 512 * (grid0.coords t 0).val + 512 ≤ 8704 := by rw [et]; omega
  rw [Value.flushed5_A, iblk0_eq, iblk1_eq, iblk3_eq, iblk4_eq, out_eq _ _ _ _ _ _ _ _ _ _ _ _ _ _ _ _ _ _ _ ho]
  funext (j : S384x8x512.Idx)
  have h2 : (j 2).val < 512 := (j 2).isLt
  have hb : t.val * 512 + (j 2).val < 8704 := by omega
  have E : ((cfg0.win 5).blk t).view.emb j = ix3 (j 0) (j 1) (⟨t.val * 512 + (j 2).val, hb⟩ : Fin 8704) := by
    funext a; apply Fin.ext
    match a with
    | ⟨0, _⟩ => show win0_5.index t 0 * 384 + 1 * (j 0).val = (j 0).val; rw [e0]; omega
    | ⟨1, _⟩ => show win0_5.index t 1 * 8 + 1 * (j 1).val = (j 1).val; rw [e1]; omega
    | ⟨2, _⟩ => show win0_5.index t 2 * 512 + 1 * (j 2).val = t.val * 512 + (j 2).val; rw [e2]; omega
  have hcol : (⟨512 * (grid0.coords t 0).val + (j 2).val, by rw [et]; omega⟩ : Fin 8704) = ⟨t.val * 512 + (j 2).val, hb⟩ :=
    Fin.ext (by show 512 * (grid0.coords t 0).val + (j 2).val = t.val * 512 + (j 2).val; rw [et]; omega)
  show block _ ho _ _ _ _ _ j = res m c (((cfg0.win 5).blk t).view.emb j)
  rw [E]
  unfold block res result
  rw [hcol]
  have hw : (fun k => iblk m c 2 t (ix2 k (j 2))) = fun k : Fin 6144 => m ((c : Thread nD τ).loc main_arg2) (ix2 k (⟨t.val * 512 + (j 2).val, hb⟩ : Fin 8704)) :=
    funext fun k => iblk2_apply m c t k (j 2) _ rfl
  rw [hw]
  rfl

/-- An index of the result is in point `t`'s block when its column is among the block's 512. -/
theorem mem_blk (t : Fin cfg0.N) (i : S384x8x8704.Idx) :
    i ∈ ((cfg0.win 5).blk t).view.set ↔ t.val * 512 ≤ (i 2 : Nat) ∧ (i 2 : Nat) < t.val * 512 + 512 := by
  show i ∈ ((View.whole main_v0).slice (win0_5.rect t)).set ↔ _
  rw [View.set_slice_whole, Rect.mem_set_unit]
  obtain ⟨-, -, -, -, -, ⟨e0, e1, e2⟩, -⟩ := idx_closed t
  have h0 : (i 0 : Nat) < 384 := (i 0).isLt
  have h1 : (i 1 : Nat) < 8 := (i 1).isLt
  refine ⟨fun h => ?_, fun h a => ?_⟩
  · have h2 : win0_5.index t 2 * 512 ≤ (i 2 : Nat) ∧ (i 2 : Nat) < win0_5.index t 2 * 512 + 512 := h 2
    rw [e2] at h2; exact h2
  · match a with
    | ⟨0, _⟩ => show win0_5.index t 0 * 384 ≤ (i 0 : Nat) ∧ (i 0 : Nat) < win0_5.index t 0 * 384 + 384; rw [e0]; omega
    | ⟨1, _⟩ => show win0_5.index t 1 * 8 ≤ (i 1 : Nat) ∧ (i 1 : Nat) < win0_5.index t 1 * 8 + 8; rw [e1]; omega
    | ⟨2, _⟩ => show win0_5.index t 2 * 512 ≤ (i 2 : Nat) ∧ (i 2 : Nat) < win0_5.index t 2 * 512 + 512; rw [e2]; exact h

/-- Every index is in the block of its column. -/
theorem cover (i : S384x8x8704.Idx) :
    ∃ t : Fin cfg0.N, (cfg0.win 5).flush t = true ∧ i ∈ ((cfg0.win 5).blk t).view.set := by
  have h2 : (i 2 : Nat) < 8704 := (i 2).isLt
  refine ⟨⟨(i 2 : Nat) / 512, by show _ < grid0.N; rw [Gen.N_0]; omega⟩, flush0_5 _, ?_⟩
  rw [mem_blk]
  dsimp only
  omega

/-- The result array after the run is the whole result. -/
theorem final_eq (c : Dev nD) : (dats m 0 c).arrAt 5 cfg0.N = res m c :=
  (dats m 0 c).arrAt_eq_of_cover 5 (res m c) (fun t _ => flushed_eq m c t) cover

end Cert.MatmulIdeal.Tile
-- ==== Proof.MatmulRefValue.lean ====
/-
  The matmul reference, read at an index on the extended reals.
-/
module

public import proofs.«01_k».proof.Defs
public import proofs.«01_k».proof.Proof.Gen.MatmulRefIdeal.Value
public import Idealize.ShloMosaic.Lib.Pointwise

@[expose] public section

set_option maxRecDepth 16384

noncomputable section

namespace Cert.MatmulRefIdeal.At

open Cert.MatmulRefIdeal Cert.MatmulRefIdeal.Gen Idealize.ShloMosaic Idealize.ShloMosaic.TcCoe

/-- The reference's result at row `8 p + q` (row `s` of batch `i`) and column `n`. -/
theorem G_apply (x : Vec Ideal S3x1024x6144 .fp8e4m3) (xs : Vec Ideal S3072x1 .f32) (w : Vec Ideal S6144x8704 .fp8e4m3)
    (ws b : Vec Ideal S8704 .f32) (p : Fin 384) (q : Fin 8) (n : Fin 8704) (r : Fin 3072) (i : Fin 3) (s : Fin 1024)
    (hr : r.val = 8 * p.val + q.val) (hi : r.val = 1024 * i.val + s.val) :
    Value.G5 (F := Ideal) x xs w ws b (ix3 p q n)
      = ((∑ k : Fin 6144, x (ix3 i s k) * w (ix2 k n) : EReal) * xs (ix2 r 0) * ws (ix1 n) + b (ix1 n) : EReal) := by
  have hb : 8 * p.val + q.val < 3072 := by omega
  have er : r = ⟨8 * p.val + q.val, hb⟩ := Fin.ext hr
  have hi' : p.val / 128 < 3 := by omega
  have ei : i = ⟨p.val / 128, hi'⟩ := Fin.ext (by dsimp only; omega)
  have hs' : p.val % 128 * 8 + q.val < 1024 := by omega
  have es : s = ⟨p.val % 128 * 8 + q.val, hs'⟩ := Fin.ext (by dsimp only; omega)
  have ec : p.val / 128 * 1024 + (p.val % 128 * 8 + q.val) = 8 * p.val + q.val := by omega
  clear hr hi
  subst er ei es
  unfold Value.G5 k0_pay1
  simp only [pointwise]
  simp [ec]

end Cert.MatmulRefIdeal.At
-- ==== Proof.MatmulEq.lean ====
/-
  The matmul kernel and its reference compute the same result on the extended reals.
-/
module

public import proofs.«01_k».proof.Proof.MatmulArray
public import proofs.«01_k».proof.Proof.MatmulRefValue

@[expose] public section

set_option maxRecDepth 16384

noncomputable section

namespace Cert.MatmulEq

open Idealize.ShloMosaic Idealize.ShloMosaic.TcCoe Idealize.SL.Sem

/-- The kernel's whole result is the reference's, entry by entry: the same sum of products, scaled and biased in the
    same order. -/
theorem result_eq (x : Vec Ideal Cert.MatmulIdeal.S3x1024x6144 .fp8e4m3) (xs : Vec Ideal Cert.MatmulIdeal.S3072x1 .f32)
    (w : Vec Ideal Cert.MatmulIdeal.S6144x8704 .fp8e4m3) (ws b : Vec Ideal Cert.MatmulIdeal.S8704 .f32) :
    Cert.MatmulRefIdeal.Value.G5 (F := Ideal) x xs w ws b = Cert.MatmulIdeal.Tile.result x xs w ws b := by
  funext y
  idx_vars y
  have hr : (Cert.MatmulIdeal.Tile.row y0 y1).val = 8 * y0.val + y1.val := rfl
  rw [Cert.MatmulRefIdeal.At.G_apply x xs w ws b y0 y1 y2 (Cert.MatmulIdeal.Tile.row y0 y1)
    ⟨(Cert.MatmulIdeal.Tile.row y0 y1).val / 1024, by omega⟩ ⟨(Cert.MatmulIdeal.Tile.row y0 y1).val % 1024, by omega⟩ rfl
    (by dsimp only; omega)]
  rfl

/-- The claim's statement: from the same arguments both runs end with the same result and their arguments unchanged. -/
theorem algebraic : Cert.algebraic_MatmulIdeal_MatmulRefIdeal := by
  intro m ρ m' ρ' _ hag
  refine ⟨fun c => Cert.MatmulIdeal.Tile.res m c, ?_, ?_⟩
  · exact (θ_run _ _ _).mono (fun _ h c => ⟨(h c).1.trans (Cert.MatmulIdeal.Tile.final_eq m c), (h c).2⟩)
      (Cert.MatmulIdeal.Value.run_blocks (F := Ideal) m ρ)
  · refine (θ_run _ _ _).mono (fun _ h c => ⟨(h c).1.trans ?_, (h c).2⟩) (Cert.MatmulRefIdeal.Value.run (F := Ideal) m' ρ')
    obtain ⟨h0, h1, h2, h3, h4⟩ := hag c
    rw [h0, h1, h2, h3, h4]
    exact result_eq _ _ _ _ _

end Cert.MatmulEq
-- ==== Proof.QuantRow.lean ====
/-
  One row of the quantiser: the scale of a row and the code of an entry, as functions of single values.
-/
module

public import proofs.«01_k».proof.Defs
public import proofs.«01_k».proof.Proof.Gen.Quantise.Value
public import proofs.«01_k».proof.Proof.Gen.QuantiseRef.Frame
public import Idealize.ShloMosaic.Lib.Pointwise

@[expose] public section

set_option maxRecDepth 16384

noncomputable section

namespace Cert.QuantRow

open Idealize.ShloMosaic Idealize.ShloMosaic.TcCoe

variable {F : FTy → Type} [BitOps F]

/-! ## The scale and the inverse scale of a row, from its largest magnitude

    Each is the kernel's own chain of operations, read at one index of a column of equal values. -/

section Scalars
open Cert.Quantise Cert.Quantise.Gen

/-- The frexp exponent of `a` times the constant 1/448, zero where `a` is zero: the chain of a column of largest
    magnitudes `v`. -/
def expV (v : FVec F S256x1 .f32) : IVec S256x1 32 := k0_pay6 v (
  have cst_2 : F .f32 := Scalar.ofBits .f32 0x3B124925#32
  have v6 : FVec F S256x1 .f32 := broadcast S256x1 cst_2
  have v7 : FVec F S256x1 .f32 := mulf v v6
  have v8 : IVec S256x1 32 := bitcastToInt v7
  have v9 : IVec S256x1 32 := broadcast S256x1 2139095040#32
  have v10 : IVec S256x1 32 := andi v8 v9
  have v11 : IVec S256x1 32 := broadcast S256x1 0#32
  have v12 : IVec S256x1 1 := cmpi .eq v10 v11
  have v13 : IVec S256x1 32 := broadcast S256x1 2147483648#32
  have v14 : IVec S256x1 32 := andi v8 v13
  have v15 : IVec S256x1 32 := select v12 v14 v8
  have v16 : FVec F S256x1 .f32 := bitcastToFloat .f32 v15
  have v17 : IVec S256x1 32 := bitcastToInt v16
  have v20 : IVec S256x1 32 := broadcast S256x1 23#32
  have v21 : IVec S256x1 32 := shrui v17 v20
  have v22 : IVec S256x1 32 := broadcast S256x1 255#32
  have v23 : IVec S256x1 32 := andi v21 v22
  have v26 : IVec S256x1 32 := broadcast S256x1 0#32
  have v27 : IVec S256x1 1 := cmpi .eq v23 v26
  have v28 : IVec S256x1 32 := broadcast S256x1 255#32
  have v29 : IVec S256x1 1 := cmpi .eq v23 v28
  have v35 : IVec S256x1 1 := ori v29 v27
  have v36 : IVec S256x1 32 := broadcast S256x1 0#32
  have v37 : IVec S256x1 32 := broadcast S256x1 126#32
  have v38 : IVec S256x1 32 := subi v23 v37
  select v35 v36 v38)

/-- `1.0` by `ldexp` to the exponents `e`. -/
def ldexpV (e : IVec S256x1 32) : FVec F S256x1 .f32 :=
  have v68 : IVec S256x1 32 := broadcast S256x1 4294966784#32
  have v69 : IVec S256x1 32 := maxsi e v68
  have v70 : IVec S256x1 32 := broadcast S256x1 512#32
  have v71 : IVec S256x1 32 := minsi v69 v70
  have v72 : IVec S256x1 32 := addi (k0_pay9 (F := F)) v71
  have v62 : IVec S256x1 32 := broadcast S256x1 8388607#32
  have v63 : IVec S256x1 32 := andi (k0_pay7 (F := F)) v62
  have v75 : IVec S256x1 32 := broadcast S256x1 23#32
  have v76 : IVec S256x1 32 := shli v72 v75
  have v77 : IVec S256x1 32 := ori (k0_pay8 (F := F)) v76
  have v78 : IVec S256x1 32 := ori v77 v63
  have v79 : IVec S256x1 32 := broadcast S256x1 0#32
  have v80 : IVec S256x1 1 := cmpi .sle v72 v79
  have v81 : IVec S256x1 32 := broadcast S256x1 255#32
  have v82 : IVec S256x1 1 := cmpi .sge v72 v81
  k0_pay17 (F := F) (k0_pay7 (F := F)) (k0_pay8 (F := F)) (k0_pay10 (F := F)) (k0_pay11 (F := F)) (k0_pay13 (F := F)) v78 v80 v82

/-- The row exponent of a largest magnitude `a`. -/
def expS (a : F .f32) : BitVec 32 := expV (fun _ => a) (ix2 0 0)

/-- `2 ^ e`, as `ldexp` makes it. -/
def ldexpS (e : BitVec 32) : F .f32 := ldexpV (F := F) (fun _ => e) (ix2 0 0)

/-- The code of an entry `x` of a row of exponent `e`: the entry times the inverse scale, clipped to ±448 and cast. -/
def codeE (x : F .bf16) (e : BitVec 32) : F .fp8e4m3 :=
  FloatOps.truncf .fp8e4m3 bitsLt_fp8e4m3_f32 (FloatOps.minimumf (Scalar.ofBits .f32 0x43E00000#32)
    (FloatOps.maximumf (Scalar.ofBits .f32 0xC3E00000#32)
      (FloatOps.mulf (FloatOps.extf .f32 bitsLt_bf16_f32 x) (ldexpS (IntOp.subi 0#32 e)))))

theorem expV_apply (v : FVec F S256x1 .f32) (i : S256x1.Idx) : expV v i = expS (v i) := by
  unfold expS expV k0_pay6
  simp only [pointwise]
theorem ldexpV_apply (e : IVec S256x1 32) (i : S256x1.Idx) : ldexpV (F := F) e i = ldexpS (e i) := by
  unfold ldexpS ldexpV k0_pay17 k0_pay13 k0_pay11 k0_pay10 k0_pay9 k0_pay8 k0_pay7
  simp only [pointwise]

end Scalars
end Cert.QuantRow
-- ==== Proof.QuantTile.lean ====
/-
  The quantiser's tile and its reference's arrays, read at an index, in terms of one row.
-/
module

public import proofs.«01_k».proof.Proof.QuantRow
public import Idealize.ShloMosaic.PureOps.BitExact.Laws

@[expose] public section

set_option maxRecDepth 16384

noncomputable section

namespace Cert.QuantRow

open Idealize.ShloMosaic Idealize.ShloMosaic.TcCoe

/-- The largest magnitude of a row: the maximum, from minus infinity, of the absolute values of its entries. -/
def amax (row : Fin 6144 → Bits .bf16) : Bits .f32 :=
  (Finset.univ : Finset (Fin 6144)).fold (FloatOps.maximumf (F := Bits) (φ := .f32)) (Scalar.ofBits .f32 0xFF800000#32)
    (fun k => FloatOps.absf (FloatOps.extf .f32 Cert.Quantise.Gen.bitsLt_bf16_f32 (row k)))

/-- The scale of a row. -/
def scaleS (row : Fin 6144 → Bits .bf16) : Bits .f32 := ldexpS (expS (amax row))

/-! ## The kernel's tile -/
section Kernel
open Cert.Quantise Cert.Quantise.Gen

theorem hz2 : (![0, 0] : Fin 2 → Nat) = fun _ => 0 := funext fun a => by fin_cases a <;> rfl
theorem hz3 : (![0, 0, 0] : Fin 3 → Nat) = fun _ => 0 := funext fun a => by fin_cases a <;> rfl

theorem k_amax (x : Vec Bits S1x256x6144 .bf16) (i : S256x1.Idx) :
    k0_pay4 (F := Bits) x i = amax (fun k => x (ix3 0 (i 0) k)) := by
  idx_vars i
  unfold k0_pay4 k0_pay3 amax
  simp only [pointwise]
  try rfl

theorem k_exp (x : Vec Bits S1x256x6144 .bf16) (i : S256x1.Idx) :
    k0_pay29 (F := Bits) x i = expS (amax fun k => View.ld x r0_0 (ix3 0 (i 0) k)) := by
  rw [← k_amax, ← expV_apply]
  rfl

theorem k_scale (x : Vec Bits S1x256x6144 .bf16) (i : S256x1.Idx) :
    k0_pay30 (F := Bits) x i = ldexpS (expS (amax fun k => View.ld x r0_0 (ix3 0 (i 0) k))) := by
  rw [← k_exp, ← ldexpV_apply]
  rfl

theorem k_row (v : Vec Bits S256x1 .f32) (i : S1x1x256.Idx) :
    k0_pay2 (F := Bits) v i = v (ix2 (i 2) 0) := by
  idx_vars i
  unfold k0_pay2
  simp only [pointwise]
  refine congrArg v (congrArg₂ ix2 (Fin.ext ?_) (Fin.ext (by simp)))
  show (![0, 0] : Fin 2 → Nat) 1 + i2.val = i2.val
  exact Nat.zero_add _

theorem k_code (x : Vec Bits S1x256x6144 .bf16) (e : IVec S256x1 32) (i : S1x256x6144.Idx) :
    k0_pay1 (F := Bits) (k0_pay3 x) (k0_pay18 (F := Bits)) (k0_pay19 (F := Bits)) (k0_pay21 (F := Bits)) (k0_pay22 (F := Bits))
      (k0_pay23 (F := Bits) e) (k0_pay24 (F := Bits)) (k0_pay25 (F := Bits) e) (k0_pay26 (F := Bits) e) 255#32 i = codeE (F := Bits) (x i) (e (ix2 (i 1) 0)) := by
  idx_vars i
  obtain rfl : i0 = 0 := Subsingleton.elim _ _
  unfold codeE ldexpS ldexpV k0_pay1 k0_pay3 k0_pay26 k0_pay25 k0_pay24 k0_pay23 k0_pay22 k0_pay21 k0_pay20 k0_pay19 k0_pay18
    k0_pay17 k0_pay13 k0_pay11 k0_pay10 k0_pay9 k0_pay8 k0_pay7
  simp only [pointwise]
  try rfl

/-- The scale column a point leaves. -/
theorem k_out2 (x : Vec Bits S1x256x6144 .bf16) (i : S256x1.Idx) :
    out0_2 (F := Bits) x i = scaleS fun k => x (ix3 0 (i 0) k) := by
  unfold out0_2
  rw [View.canon_unit_zero hz2, k_scale, View.ld_unit_zero (S := S1x256x6144) hz3 _ x]
  rfl

/-- The scale row a point leaves. -/
theorem k_out3 (x : Vec Bits S1x256x6144 .bf16) (i : S1x1x256.Idx) :
    out0_3 (F := Bits) x i = scaleS fun k => x (ix3 0 (i 2) k) := by
  unfold out0_3
  rw [View.canon_unit_zero hz3, k_row, k_scale, View.ld_unit_zero (S := S1x256x6144) hz3 _ x]
  rfl

/-- The codes a point leaves. -/
theorem k_out1 (x : Vec Bits S1x256x6144 .bf16) (i : S1x256x6144.Idx) :
    out0_1 (F := Bits) x i = codeE (F := Bits) (x i) (expS (amax fun k => x (ix3 0 (i 1) k))) := by
  unfold out0_1
  rw [View.canon_unit_zero hz3, k_code, k_exp, View.ld_unit_zero (S := S1x256x6144) hz3 _ x]
  rfl
end Kernel

/-! ## The reference's arrays -/
section Ref
open Cert.QuantiseRef Cert.QuantiseRef.Gen

theorem r_amax (x : Vec Bits S3x1024x6144 .bf16) (i : S3x1024x1.Idx) :
    k0_pay5 (F := Bits) x i = amax (fun k => x (ix3 (i 0) (i 1) k)) := by
  idx_vars i
  unfold k0_pay5 k0_pay4 amax
  simp only [pointwise]
  try rfl

theorem r_exp (x : Vec Bits S3x1024x6144 .bf16) (i : S3x1024x1.Idx) :
    k0_pay24 (F := Bits) x i = expS (amax fun k => View.ld x r0_0 (ix3 (i 0) (i 1) k)) := by
  rw [← r_amax]
  unfold k0_pay24 k0_pay22 k0_pay23 k0_pay6 k0_pay7 k0_pay8 expS expV Cert.Quantise.Gen.k0_pay6
  generalize k0_pay5 (F := Bits) (View.ld x r0_0) = v
  idx_vars i
  simp only [pointwise]
  try rfl

theorem r_ldexp (v : IVec S3x1024x1 32) (u : IVec S3x1024x1 1) (i : S3x1024x1.Idx) :
    k0_pay13 (F := Bits) (k0_pay9 (F := Bits)) (k0_pay11 (F := Bits)) (k0_pay12 (F := Bits) v u) i = ldexpS (k0_pay8 v u i) := by
  unfold k0_pay13 k0_pay12 k0_pay11 k0_pay10 k0_pay9 ldexpS ldexpV
    Cert.Quantise.Gen.k0_pay17 Cert.Quantise.Gen.k0_pay13 Cert.Quantise.Gen.k0_pay11 Cert.Quantise.Gen.k0_pay10
    Cert.Quantise.Gen.k0_pay9 Cert.Quantise.Gen.k0_pay8 Cert.Quantise.Gen.k0_pay7
  generalize k0_pay8 v u = e
  idx_vars i
  simp only [pointwise]
  try rfl

theorem r_scale (x : Vec Bits S3x1024x6144 .bf16) (i : S3x1024x1.Idx) :
    k0_pay25 (F := Bits) x i = ldexpS (expS (amax fun k => View.ld x r0_0 (ix3 (i 0) (i 1) k))) := by
  rw [← r_exp]
  exact r_ldexp _ _ i

theorem r_code (x : Vec Bits S3x1024x6144 .bf16) (e : IVec S3x1024x1 32) (i : S3x1024x6144.Idx) :
    k0_pay1 (F := Bits) (k0_pay4 x) (k0_pay14 (F := Bits)) (k0_pay15 (F := Bits)) (k0_pay17 (F := Bits)) (k0_pay18 (F := Bits))
      (k0_pay20 (F := Bits) e) (k0_pay21 (F := Bits) e) i
      = codeE (F := Bits) (x i) (e (ix3 (i 0) (i 1) 0)) := by
  idx_vars i
  unfold codeE ldexpS ldexpV k0_pay1 k0_pay4 k0_pay21 k0_pay20 k0_pay19 k0_pay18 k0_pay17 k0_pay16 k0_pay15 k0_pay14
    Cert.Quantise.Gen.k0_pay17 Cert.Quantise.Gen.k0_pay13 Cert.Quantise.Gen.k0_pay11 Cert.Quantise.Gen.k0_pay10
    Cert.Quantise.Gen.k0_pay9 Cert.Quantise.Gen.k0_pay8 Cert.Quantise.Gen.k0_pay7
  simp only [pointwise]
  try rfl

/-- The reference's codes. -/
theorem r_out1 (x : Vec Bits S3x1024x6144 .bf16) (i : S3x1024x6144.Idx) :
    out0_1 (F := Bits) x i = codeE (F := Bits) (x i) (expS (amax fun k => x (ix3 (i 0) (i 1) k))) := by
  unfold out0_1
  rw [View.canon_unit_zero hz3, r_code, r_exp, View.ld_unit_zero (S := S3x1024x6144) hz3 _ x]
  rfl

/-- The reference's scale column: row `1024 b + r` is row `r` of batch `b`. -/
theorem r_out2 (x : Vec Bits S3x1024x6144 .bf16) (i : Fin 3072) (b : Fin 3) (r : Fin 1024) (h : i.val = 1024 * b.val + r.val) :
    out0_2 (F := Bits) x (ix2 i 0) = scaleS fun k => x (ix3 b r k) := by
  unfold out0_2 k0_pay2
  rw [View.canon_unit_zero hz2]
  have E : shapeCast S3072x1 (k0_pay25 (F := Bits) x) shapeCasts_S3x1024x1_S3072x1 (ix2 i 0) = k0_pay25 (F := Bits) x (ix3 b r 0) := by
    simp only [pointwise]
    refine congrArg _ ?_
    funext a; apply Fin.ext
    match a with
    | ⟨0, _⟩ => simp; omega
    | ⟨1, _⟩ => simp; omega
    | ⟨2, _⟩ => rfl
  show shapeCast S3072x1 (k0_pay25 (F := Bits) x) shapeCasts_S3x1024x1_S3072x1 (ix2 i 0) = _
  rw [E, r_scale, View.ld_unit_zero (S := S3x1024x6144) hz3 _ x]
  rfl

/-- The reference's scale row. -/
theorem r_out3 (x : Vec Bits S3x1024x6144 .bf16) (i : S3x1x1024.Idx) :
    out0_3 (F := Bits) x i = scaleS fun k => x (ix3 (i 0) (i 2) k) := by
  idx_vars i
  unfold out0_3 k0_pay3
  rw [View.canon_unit_zero hz3]
  have E : shapeCast S3x1x1024 (k0_pay25 (F := Bits) x) shapeCasts_S3x1024x1_S3x1x1024 (ix3 i0 i1 i2) = k0_pay25 (F := Bits) x (ix3 i0 i2 0) := by
    simp only [pointwise]
    try (
    refine congrArg _ ?_
    funext a; apply Fin.ext
    match a with
    | ⟨0, _⟩ => simp; omega
    | ⟨1, _⟩ => simp; omega
    | ⟨2, _⟩ => rfl)
  show shapeCast S3x1x1024 (k0_pay25 (F := Bits) x) shapeCasts_S3x1024x1_S3x1x1024 (ix3 i0 i1 i2) = _
  rw [E, r_scale, View.ld_unit_zero (S := S3x1024x6144) hz3 _ x]
  rfl
end Ref

end Cert.QuantRow
-- ==== Proof.QuantEq.lean ====
/-
  The quantiser and its reference end with the same three arrays, on every input word.
-/
module

public import proofs.«01_k».proof.Proof.QuantTile

@[expose] public section

set_option maxRecDepth 16384

noncomputable section

namespace Cert.QuantRow

open Idealize.ShloMosaic Idealize.ShloMosaic.TcCoe Idealize.SL.Sem
open Idealize.ShloMosaic.Pipeline (Dat)

/-! ## The three arrays -/

/-- The codes of a whole activation. -/
def codes (x : Vec Bits Cert.Quantise.S3x1024x6144 .bf16) : Vec Bits Cert.Quantise.S3x1024x6144 .fp8e4m3 := fun y =>
  codeE (F := Bits) (x y) (expS (amax fun k => x (ix3 (y 0) (y 1) k)))

/-- The scales as a column: row `1024 b + r` is row `r` of batch `b`. -/
def scaleCol (x : Vec Bits Cert.Quantise.S3x1024x6144 .bf16) : Vec Bits Cert.Quantise.S3072x1 .f32 := fun y =>
  scaleS fun k => x (ix3 (⟨(y 0).val / 1024, by have h : (y 0).val < 3072 := (y 0).isLt; omega⟩ : Fin 3)
    (⟨(y 0).val % 1024, Nat.mod_lt _ (by decide)⟩ : Fin 1024) k)

/-- The scales as one row per batch. -/
def scaleRow (x : Vec Bits Cert.Quantise.S3x1024x6144 .bf16) : Vec Bits Cert.Quantise.S3x1x1024 .f32 := fun y =>
  scaleS fun k => x (ix3 (y 0) (y 2) k)

/-! ## The kernel -/
section Kernel
open Cert.Quantise Cert.Quantise.Gen

variable (m : (ℓ : Loc nD τ sig) → Buf (Elt Bits) ℓ) (ρ : Dev nD → PrngReg)

/-- The block indices of every window: point `t` is batch `t / 4`, row block `t % 4`. -/
theorem k_idx : ∀ t : Fin grid0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val ∧ win0_2.index t 1 = 0)
    ∧ (win0_3.index t 0 = t.val / 4 ∧ win0_3.index t 1 = 0 ∧ win0_3.index t 2 = t.val % 4) := by
  decide +kernel

/-- The activation block of point `t`. -/
theorem k_iblk (c : Dev nD) (t : Fin cfg0.N) (z : Fin 1) (r : Fin 256) (k : Fin 6144) (b' : Fin 3) (r' : Fin 1024)
    (hb : b'.val = t.val / 4) (hr : r'.val = t.val % 4 * 256 + r.val) :
    iblk m c 0 t (ix3 z r k) = m ((c : Thread nD τ).loc main_arg0) (ix3 b' r' k) := by
  obtain ⟨⟨e0, e1, e2⟩, -⟩ := k_idx t
  refine congrArg (m ((c : Thread nD τ).loc main_arg0)) (funext fun a => Fin.ext ?_)
  match a with
  | ⟨0, _⟩ => show win0_0.index t 0 * 1 + 1 * z.val = b'.val; rw [e0]; omega
  | ⟨1, _⟩ => show win0_0.index t 1 * 256 + 1 * r.val = r'.val; rw [e1]; omega
  | ⟨2, _⟩ => show win0_0.index t 2 * 6144 + 1 * k.val = k.val; rw [e2]; omega

theorem k_flushed1 (c : Dev nD) (t : Fin cfg0.N) :
    (dats m 0 c).flushed 1 t = ((cfg0.win 1).blk t).view.read (Elt Bits) (codes (m ((c : Thread nD τ).loc main_arg0))) := by
  obtain ⟨-, ⟨e0, e1, e2⟩, -⟩ := k_idx t
  have ht : t.val < 12 := lt_of_lt_of_eq t.isLt Gen.N_0
  rw [Value.flushed1]
  funext (j : S1x256x6144.Idx)
  have h0 : (j 0).val < 1 := (j 0).isLt
  have h1 : (j 1).val < 256 := (j 1).isLt
  have hb : t.val / 4 < 3 := by omega
  have hr : t.val % 4 * 256 + (j 1).val < 1024 := by omega
  have E : ((cfg0.win 1).blk t).view.emb j = ix3 (⟨t.val / 4, hb⟩ : Fin 3) (⟨t.val % 4 * 256 + (j 1).val, hr⟩ : Fin 1024) (j 2) := by
    funext a; apply Fin.ext
    match a with
    | ⟨0, _⟩ => show win0_1.index t 0 * 1 + 1 * (j 0).val = t.val / 4; rw [e0]; omega
    | ⟨1, _⟩ => show win0_1.index t 1 * 256 + 1 * (j 1).val = t.val % 4 * 256 + (j 1).val; rw [e1]; omega
    | ⟨2, _⟩ => show win0_1.index t 2 * 6144 + 1 * (j 2).val = (j 2).val; rw [e2]; omega
  show out0_1 (iblk m c 0 t) j = codes _ (((cfg0.win 1).blk t).view.emb j)
  rw [E, k_out1]
  idx_vars j
  rw [k_iblk m c t j0 j1 j2 ⟨t.val / 4, hb⟩ ⟨t.val % 4 * 256 + j1.val, hr⟩ rfl rfl]
  have hrow : (fun k => iblk m c 0 t (ix3 0 j1 k)) = fun k : Fin 6144 => m ((c : Thread nD τ).loc main_arg0) (ix3 (⟨t.val / 4, hb⟩ : Fin 3) (⟨t.val % 4 * 256 + j1.val, hr⟩ : Fin 1024) k) :=
    funext fun k => k_iblk m c t 0 j1 k _ _ rfl rfl
  refine congrArg (fun f => codeE (F := Bits) _ (expS (amax f))) hrow

theorem k_flushed2 (c : Dev nD) (t : Fin cfg0.N) :
    (dats m 0 c).flushed 2 t = ((cfg0.win 2).blk t).view.read (Elt Bits) (scaleCol (m ((c : Thread nD τ).loc main_arg0))) := by
  obtain ⟨-, -, ⟨e0, e1⟩, -⟩ := k_idx t
  have ht : t.val < 12 := lt_of_lt_of_eq t.isLt Gen.N_0
  rw [Value.flushed2]
  funext (j : S256x1.Idx)
  have h0 : (j 0).val < 256 := (j 0).isLt
  have hi : t.val * 256 + (j 0).val < 3072 := by omega
  have E : ((cfg0.win 2).blk t).view.emb j = ix2 (⟨t.val * 256 + (j 0).val, hi⟩ : Fin 3072) (j 1) := by
    funext a; apply Fin.ext
    match a with
    | ⟨0, _⟩ => show win0_2.index t 0 * 256 + 1 * (j 0).val = t.val * 256 + (j 0).val; rw [e0]; omega
    | ⟨1, _⟩ => show win0_2.index t 1 * 1 + 1 * (j 1).val = (j 1).val; rw [e1]; omega
  show out0_2 (iblk m c 0 t) j = scaleCol _ (((cfg0.win 2).blk t).view.emb j)
  rw [E, k_out2]
  idx_vars j
  refine congrArg scaleS (funext fun k => k_iblk m c t 0 j0 k _ _ ?_ ?_)
  · show (t.val * 256 + j0.val) / 1024 = t.val / 4; omega
  · show (t.val * 256 + j0.val) % 1024 = t.val % 4 * 256 + j0.val; omega

theorem k_flushed3 (c : Dev nD) (t : Fin cfg0.N) :
    (dats m 0 c).flushed 3 t = ((cfg0.win 3).blk t).view.read (Elt Bits) (scaleRow (m ((c : Thread nD τ).loc main_arg0))) := by
  obtain ⟨-, -, -, ⟨e0, e1, e2⟩⟩ := k_idx t
  have ht : t.val < 12 := lt_of_lt_of_eq t.isLt Gen.N_0
  rw [Value.flushed3]
  funext (j : S1x1x256.Idx)
  have h0 : (j 0).val < 1 := (j 0).isLt
  have h2 : (j 2).val < 256 := (j 2).isLt
  have hb : t.val / 4 < 3 := by omega
  have hr : t.val % 4 * 256 + (j 2).val < 1024 := by omega
  have E : ((cfg0.win 3).blk t).view.emb j = ix3 (⟨t.val / 4, hb⟩ : Fin 3) (j 1) (⟨t.val % 4 * 256 + (j 2).val, hr⟩ : Fin 1024) := by
    funext a; apply Fin.ext
    match a with
    | ⟨0, _⟩ => show win0_3.index t 0 * 1 + 1 * (j 0).val = t.val / 4; rw [e0]; omega
    | ⟨1, _⟩ => show win0_3.index t 1 * 1 + 1 * (j 1).val = (j 1).val; rw [e1]; omega
    | ⟨2, _⟩ => show win0_3.index t 2 * 256 + 1 * (j 2).val = t.val % 4 * 256 + (j 2).val; rw [e2]; omega
  show out0_3 (iblk m c 0 t) j = scaleRow _ (((cfg0.win 3).blk t).view.emb j)
  rw [E, k_out3]
  idx_vars j
  exact congrArg scaleS (funext fun k => k_iblk m c t 0 j2 k _ _ rfl rfl)

theorem k_cover1 (i : S3x1024x6144.Idx) :
    ∃ t : Fin cfg0.N, (cfg0.win 1).flush t = true ∧ i ∈ ((cfg0.win 1).blk t).view.set := by
  have h0 : (i 0 : Nat) < 3 := (i 0).isLt
  have h1 : (i 1 : Nat) < 1024 := (i 1).isLt
  have h2 : (i 2 : Nat) < 6144 := (i 2).isLt
  obtain ⟨t, et⟩ : ∃ t : Fin cfg0.N, t.val = 4 * (i 0 : Nat) + (i 1 : Nat) / 256 :=
    ⟨⟨4 * (i 0 : Nat) + (i 1 : Nat) / 256, by show _ < grid0.N; rw [Gen.N_0]; omega⟩, rfl⟩
  obtain ⟨-, ⟨e0, e1, e2⟩, -⟩ := k_idx t
  refine ⟨t, flush0_1 _, ?_⟩
  show i ∈ ((View.whole main_v0_0).slice (win0_1.rect t)).set
  rw [View.set_slice_whole, Rect.mem_set_unit]
  intro a
  match a with
  | ⟨0, _⟩ => show win0_1.index t 0 * 1 ≤ (i 0 : Nat) ∧ (i 0 : Nat) < win0_1.index t 0 * 1 + 1; rw [e0]; omega
  | ⟨1, _⟩ => show win0_1.index t 1 * 256 ≤ (i 1 : Nat) ∧ (i 1 : Nat) < win0_1.index t 1 * 256 + 256; rw [e1]; omega
  | ⟨2, _⟩ => show win0_1.index t 2 * 6144 ≤ (i 2 : Nat) ∧ (i 2 : Nat) < win0_1.index t 2 * 6144 + 6144; rw [e2]; omega

theorem k_cover2 (i : S3072x1.Idx) :
    ∃ t : Fin cfg0.N, (cfg0.win 2).flush t = true ∧ i ∈ ((cfg0.win 2).blk t).view.set := by
  have h0 : (i 0 : Nat) < 3072 := (i 0).isLt
  have h1 : (i 1 : Nat) < 1 := (i 1).isLt
  obtain ⟨t, et⟩ : ∃ t : Fin cfg0.N, t.val = (i 0 : Nat) / 256 :=
    ⟨⟨(i 0 : Nat) / 256, by show _ < grid0.N; rw [Gen.N_0]; omega⟩, rfl⟩
  obtain ⟨-, -, ⟨e0, e1⟩, -⟩ := k_idx t
  refine ⟨t, flush0_2 _, ?_⟩
  show i ∈ ((View.whole main_v0_1).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256; rw [e0]; omega
  | ⟨1, _⟩ => show win0_2.index t 1 * 1 ≤ (i 1 : Nat) ∧ (i 1 : Nat) < win0_2.index t 1 * 1 + 1; rw [e1]; omega

theorem k_cover3 (i : S3x1x1024.Idx) :
    ∃ t : Fin cfg0.N, (cfg0.win 3).flush t = true ∧ i ∈ ((cfg0.win 3).blk t).view.set := by
  have h0 : (i 0 : Nat) < 3 := (i 0).isLt
  have h1 : (i 1 : Nat) < 1 := (i 1).isLt
  have h2 : (i 2 : Nat) < 1024 := (i 2).isLt
  obtain ⟨t, et⟩ : ∃ t : Fin cfg0.N, t.val = 4 * (i 0 : Nat) + (i 2 : Nat) / 256 :=
    ⟨⟨4 * (i 0 : Nat) + (i 2 : Nat) / 256, by show _ < grid0.N; rw [Gen.N_0]; omega⟩, rfl⟩
  obtain ⟨-, -, -, ⟨e0, e1, e2⟩⟩ := k_idx t
  refine ⟨t, flush0_3 _, ?_⟩
  show i ∈ ((View.whole main_v0_2).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; rw [e0]; omega
  | ⟨1, _⟩ => show win0_3.index t 1 * 1 ≤ (i 1 : Nat) ∧ (i 1 : Nat) < win0_3.index t 1 * 1 + 1; rw [e1]; omega
  | ⟨2, _⟩ => show win0_3.index t 2 * 256 ≤ (i 2 : Nat) ∧ (i 2 : Nat) < win0_3.index t 2 * 256 + 256; rw [e2]; omega

/-- The kernel's run: the three arrays, and its argument as it was. -/
theorem k_run : θ_run defs (onTc (τ := τ) (main (F := Bits))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scaleCol (m ((c : Thread nD τ).loc main_arg0))
      ∧ r.2.mem ((c : Thread nD τ).loc main_v0_2) = scaleRow (m ((c : Thread nD τ).loc main_arg0))
      ∧ r.2.mem ((c : Thread nD τ).loc main_arg0) = m ((c : Thread nD τ).loc main_arg0) :=
  (θ_run _ _ _).mono (fun _ h c =>
    ⟨(h c).1.trans ((dats m 0 c).arrAt_eq_of_cover 1 _ (fun t _ => k_flushed1 m c t) k_cover1),
     (h c).2.1.trans ((dats m 0 c).arrAt_eq_of_cover 2 _ (fun t _ => k_flushed2 m c t) k_cover2),
     (h c).2.2.1.trans ((dats m 0 c).arrAt_eq_of_cover 3 _ (fun t _ => k_flushed3 m c t) k_cover3),
     (h c).2.2.2⟩) (Value.run_blocks (F := Bits) m ρ)
end Kernel

/-! ## The reference: one block is the whole of every array -/
section Ref
open Cert.QuantiseRef Cert.QuantiseRef.Gen

variable (m : (ℓ : Loc nD τ sig) → Buf (Elt Bits) ℓ) (ρ : Dev nD → PrngReg)

theorem r_idx : ∀ t : Fin grid0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0 ∧ win0_3.index t 2 = 0) := by
  decide +kernel

theorem r_emb0 (t : Fin cfg0.N) (j : S3x1024x6144.Idx) : ((cfg0.win 0).blk t).view.emb j = j := by
  obtain ⟨⟨e0, e1, e2⟩, -⟩ := r_idx t
  funext a; apply Fin.ext
  match a with
  | ⟨0, _⟩ => show win0_0.index t 0 * 3 + 1 * (j 0).val = (j 0).val; rw [e0]; omega
  | ⟨1, _⟩ => show win0_0.index t 1 * 1024 + 1 * (j 1).val = (j 1).val; rw [e1]; omega
  | ⟨2, _⟩ => show win0_0.index t 2 * 6144 + 1 * (j 2).val = (j 2).val; rw [e2]; omega

theorem r_emb1 (t : Fin cfg0.N) (j : S3x1024x6144.Idx) : ((cfg0.win 1).blk t).view.emb j = j := by
  obtain ⟨-, ⟨e0, e1, e2⟩, -⟩ := r_idx t
  funext a; apply Fin.ext
  match a with
  | ⟨0, _⟩ => show win0_1.index t 0 * 3 + 1 * (j 0).val = (j 0).val; rw [e0]; omega
  | ⟨1, _⟩ => show win0_1.index t 1 * 1024 + 1 * (j 1).val = (j 1).val; rw [e1]; omega
  | ⟨2, _⟩ => show win0_1.index t 2 * 6144 + 1 * (j 2).val = (j 2).val; rw [e2]; omega

theorem r_emb2 (t : Fin cfg0.N) (j : S3072x1.Idx) : ((cfg0.win 2).blk t).view.emb j = j := by
  obtain ⟨-, -, ⟨e0, e1⟩, -⟩ := r_idx t
  funext a; apply Fin.ext
  match a with
  | ⟨0, _⟩ => show win0_2.index t 0 * 3072 + 1 * (j 0).val = (j 0).val; rw [e0]; omega
  | ⟨1, _⟩ => show win0_2.index t 1 * 1 + 1 * (j 1).val = (j 1).val; rw [e1]; omega

theorem r_emb3 (t : Fin cfg0.N) (j : S3x1x1024.Idx) : ((cfg0.win 3).blk t).view.emb j = j := by
  obtain ⟨-, -, -, ⟨e0, e1, e2⟩⟩ := r_idx t
  funext a; apply Fin.ext
  match a with
  | ⟨0, _⟩ => show win0_3.index t 0 * 3 + 1 * (j 0).val = (j 0).val; rw [e0]; omega
  | ⟨1, _⟩ => show win0_3.index t 1 * 1 + 1 * (j 1).val = (j 1).val; rw [e1]; omega
  | ⟨2, _⟩ => show win0_3.index t 2 * 1024 + 1 * (j 2).val = (j 2).val; rw [e2]; omega

theorem r_iblk (c : Dev nD) (t : Fin cfg0.N) : iblk m c 0 t = m ((c : Thread nD τ).loc main_arg0) := by
  funext j
  show m ((c : Thread nD τ).loc main_arg0) (((cfg0.win 0).blk t).view.emb j) = _
  rw [r_emb0]

theorem r_flushed1 (c : Dev nD) (t : Fin cfg0.N) :
    (dats m 0 c).flushed 1 t = ((cfg0.win 1).blk t).view.read (Elt Bits) (codes (m ((c : Thread nD τ).loc main_arg0))) := by
  show (cfg0.win 1).cut (grid0.coords t) ((dats m 0 c).after 1 t) = _
  rw [after0_1, r_iblk]
  funext (j : S3x1024x6144.Idx)
  show out0_1 (m ((c : Thread nD τ).loc main_arg0)) j = codes _ (((cfg0.win 1).blk t).view.emb j)
  rw [r_emb1]
  exact r_out1 _ j

theorem r_cover1 (i : S3x1024x6144.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [r_emb1] at h⟩

theorem r_flushed2 (c : Dev nD) (t : Fin cfg0.N) :
    (dats m 0 c).flushed 2 t = ((cfg0.win 2).blk t).view.read (Elt Bits) (scaleCol (m ((c : Thread nD τ).loc main_arg0))) := by
  show (cfg0.win 2).cut (grid0.coords t) ((dats m 0 c).after 2 t) = _
  rw [after0_2, r_iblk]
  funext (j : S3072x1.Idx)
  show out0_2 (m ((c : Thread nD τ).loc main_arg0)) j = scaleCol _ (((cfg0.win 2).blk t).view.emb j)
  rw [r_emb2]
  idx_vars j
  obtain rfl : j1 = 0 := Subsingleton.elim _ _
  refine r_out2 _ j0 _ _ ?_
  show j0.val = 1024 * (j0.val / 1024) + j0.val % 1024
  omega

theorem r_cover2 (i : S3072x1.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [r_emb2] at h⟩

theorem r_flushed3 (c : Dev nD) (t : Fin cfg0.N) :
    (dats m 0 c).flushed 3 t = ((cfg0.win 3).blk t).view.read (Elt Bits) (scaleRow (m ((c : Thread nD τ).loc main_arg0))) := by
  show (cfg0.win 3).cut (grid0.coords t) ((dats m 0 c).after 3 t) = _
  rw [after0_3, r_iblk]
  funext (j : S3x1x1024.Idx)
  show out0_3 (m ((c : Thread nD τ).loc main_arg0)) j = scaleRow _ (((cfg0.win 3).blk t).view.emb j)
  rw [r_emb3]
  exact r_out3 _ j

theorem r_cover3 (i : S3x1x1024.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [r_emb3] at h⟩

/-- The reference's run: the same three arrays of its own argument. -/
theorem r_run : θ_run defs (onTc (τ := τ) (main (F := Bits))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scaleCol (m ((c : Thread nD τ).loc main_arg0))
      ∧ r.2.mem ((c : Thread nD τ).loc main_v0_2) = scaleRow (m ((c : Thread nD τ).loc main_arg0))
      ∧ r.2.mem ((c : Thread nD τ).loc main_arg0) = m ((c : Thread nD τ).loc main_arg0) :=
  (θ_run _ _ _).mono (fun _ h c =>
    ⟨((h c).1 1).trans ((dats m 0 c).arrAt_eq_of_cover 1 _ (fun t _ => r_flushed1 m c t) r_cover1),
     ((h c).1 2).trans ((dats m 0 c).arrAt_eq_of_cover 2 _ (fun t _ => r_flushed2 m c t) r_cover2),
     ((h c).1 3).trans ((dats m 0 c).arrAt_eq_of_cover 3 _ (fun t _ => r_flushed3 m c t) r_cover3),
     ((h c).1 0).trans (((dats m 0 c).arrAt_in 0 rfl _).trans ((A_eq m c 0).trans (V_main_arg0 m c)))⟩) (run_main m ρ)
end Ref

/-- The claim's statement: the kernel and the reference end with the same codes and the same scales, bit for bit. -/
theorem bitexact : Cert.bitexact_Quantise_QuantiseRef := by
  intro m g m' g' _ hag
  refine ⟨fun c => codes (m ((c : Thread Cert.Quantise.nD Cert.Quantise.τ).loc Cert.Quantise.main_arg0)),
    fun c => scaleCol (m ((c : Thread Cert.Quantise.nD Cert.Quantise.τ).loc Cert.Quantise.main_arg0)),
    fun c => scaleRow (m ((c : Thread Cert.Quantise.nD Cert.Quantise.τ).loc Cert.Quantise.main_arg0)), k_run m g, ?_⟩
  refine (θ_run _ _ _).mono (fun _ h c => ?_) (r_run m' g')
  have e := hag c
  refine ⟨(h c).1.trans ?_, (h c).2.1.trans ?_, (h c).2.2.1.trans ?_, (h c).2.2.2⟩
  · exact congrArg codes e
  · exact congrArg scaleCol e
  · exact congrArg scaleRow e

end Cert.QuantRow
-- ==== Proof.Exponent.lean ====
/-
  The power of two above a positive number, on the extended reals.

  The kernel finds it by bisection over the 255 float words `E * 2 ^ 23`, whose values are the powers of two; the
  reference takes the floor of a logarithm.  The two give the same scale and the same inverse scale, for every
  extended real.
-/
module

public import Idealize.ShloMosaic.PureOps.Ideal

@[expose] public section

set_option maxRecDepth 16384

noncomputable section

namespace Cert.Exponent

open Idealize.ShloMosaic

/-! ## The kernel's chain on single values -/

/-- The float whose word is `E * 2 ^ 23`. -/
def pow (E : BitVec 32) : EReal := FloatOps.ofBits (F := Ideal) .f32 (IntOp.shli .vector E 23#32)

/-- One step of the bisection: add the bit `b` to `E` if the power of two there is at most `m`. -/
def step (m : EReal) (b E : BitVec 32) : BitVec 32 :=
  Scalar.select (FloatOps.cmpf (F := Ideal) (φ := .f32) .oge m (pow (IntOp.addi E b))) (IntOp.addi E b) E

/-- The bisection, from the highest of the eight bits to the lowest. -/
def biased (m : EReal) : BitVec 32 :=
  step m 1#32 (step m 2#32 (step m 4#32 (step m 8#32 (step m 16#32 (step m 32#32 (step m 64#32 (step m 128#32 0#32)))))))

/-- The exponent: zero where `m` is below the least normal number or at least `2 ^ 126`. -/
def expK (m : EReal) : BitVec 32 :=
  Scalar.select (IntOp.ori (IntOp.cmpi .eq (biased m) 0#32) (IntOp.cmpi .sge (biased m) 253#32)) 0#32
    (IntOp.subi (biased m) 126#32)

/-- `2 ^ e` as the kernel makes it, from the word with the exponent field `e + 127`. -/
def powK (e : BitVec 32) : EReal := pow (IntOp.addi e 127#32)

/-! ## The reference's chain on single values -/

/-- The exponent of the reference. -/
def expR (m : EReal) : EReal :=
  Scalar.select (IntOp.andi (FloatOps.cmpf (F := Ideal) (φ := .f32) .oge m (FloatOps.ofBits (F := Ideal) .f32 0x00800000#32))
      (FloatOps.cmpf (F := Ideal) (φ := .f32) .olt m (FloatOps.ofBits (F := Ideal) .f32 0x7E800000#32)))
    (Ideal.liftRound Int.floor (Ideal.div (Ideal.log m) (Ideal.log (FloatOps.ofBits (F := Ideal) .f32 0x40000000#32)))
      + FloatOps.ofBits (F := Ideal) .f32 0x3F800000#32)
    (FloatOps.ofBits (F := Ideal) .f32 0x00000000#32)

/-! ## The thresholds -/

theorem fields : ∀ n : Fin 256, let w := IntOp.shli .vector (BitVec.ofNat 32 n.val) 23#32
    (w.extractLsb' (8 + 23) 1 == 1#1) = false ∧ (w.extractLsb' 23 8).toNat = n.val ∧ (w.extractLsb' 0 23).toNat = 0 := by
  decide +kernel

/-- A positive word with no fraction bits: a power of two, or infinity. -/
theorem ieee_of (w : BitVec 32) (n : Nat) (a : (w.extractLsb' (8 + 23) 1 == 1#1) = false)
    (b : (w.extractLsb' 23 8).toNat = n) (c : (w.extractLsb' 0 23).toNat = 0) (h1 : 1 ≤ n) :
    Ideal.ieee 8 23 w = if n = 255 then ⊤ else (((2 : ℝ) ^ ((n : ℤ) - 127) : ℝ) : EReal) := by
  have e : ((n : ℤ) - 127) = ((n : ℤ) - (2 ^ (8 - 1) - 1) - (23 : Nat)) + 23 := by norm_num
  have hn : n ≠ 0 := by omega
  simp only [Ideal.ieee, a, b, c, hn, if_false, if_true]
  rw [show (2 ^ 8 - 1 : Nat) = 255 from rfl]
  split
  · rfl
  · refine congrArg _ ?_
    rw [e, zpow_add₀ (by norm_num : (2 : ℝ) ≠ 0)]
    simp
    ring

/-- The words between the least normal number and infinity are the powers of two. -/
theorem pow_of (n : Nat) (h1 : 1 ≤ n) (h2 : n ≤ 254) : pow (BitVec.ofNat 32 n) = (((2 : ℝ) ^ ((n : ℤ) - 127) : ℝ) : EReal) := by
  obtain ⟨a, b, c⟩ := fields ⟨n, by omega⟩
  refine (ieee_of _ n a b c h1).trans (if_neg (by omega))

theorem pow_255 : pow (BitVec.ofNat 32 255) = ⊤ := by
  obtain ⟨a, b, c⟩ := fields ⟨255, by omega⟩
  exact (ieee_of _ 255 a b c (by omega)).trans (if_pos rfl)

theorem pow_mono (a b : Nat) (h1 : 1 ≤ a) (hab : a ≤ b) (h2 : b ≤ 255) : pow (BitVec.ofNat 32 a) ≤ pow (BitVec.ofNat 32 b) := by
  by_cases hb : b = 255
  · rw [hb, pow_255]; exact le_top
  · rw [pow_of a h1 (by omega), pow_of b (by omega) (by omega), EReal.coe_le_coe_iff]
    exact zpow_le_zpow_right₀ (by norm_num) (by omega)

/-! ## The bisection -/

/-- What the bisection keeps: `m` lies from the power at `n` up to the one `w` words further on. -/
def Holds (m : EReal) (n w : Nat) : Prop :=
  (n = 0 ∨ pow (BitVec.ofNat 32 n) ≤ m) ∧ (n + w = 256 ∨ m < pow (BitVec.ofNat 32 (n + w))) ∧ n + w ≤ 256

theorem step_holds (m : EReal) (w : Nat) (E : BitVec 32) (h : ∃ n, E = BitVec.ofNat 32 n ∧ Holds m n (w + w)) :
    ∃ n, step m (BitVec.ofNat 32 w) E = BitVec.ofNat 32 n ∧ Holds m n w := by
  obtain ⟨n, rfl, h0, h1, h2⟩ := h
  have e : IntOp.addi (BitVec.ofNat 32 n) (BitVec.ofNat 32 w) = BitVec.ofNat 32 (n + w) := (BitVec.ofNat_add n w).symm
  unfold step
  rw [e]
  by_cases hc : pow (BitVec.ofNat 32 (n + w)) ≤ m
  · refine ⟨n + w, ?_, .inr hc, ?_, by omega⟩
    · show (if BitVec.ofBool (decide (pow (BitVec.ofNat 32 (n + w)) ≤ m)) = 1 then _ else _) = _
      rw [decide_eq_true hc]; rfl
    · rwa [← add_assoc] at h1
  · refine ⟨n, ?_, h0, .inr (not_le.mp hc), by omega⟩
    show (if BitVec.ofBool (decide (pow (BitVec.ofNat 32 (n + w)) ≤ m)) = 1 then _ else _) = _
    rw [decide_eq_false hc]; rfl

/-- The bisection finds the last power of two that is at most `m`. -/
theorem biased_holds (m : EReal) : ∃ n, biased m = BitVec.ofNat 32 n ∧ Holds m n 1 :=
  step_holds m 1 _ <| step_holds m 2 _ <| step_holds m 4 _ <| step_holds m 8 _ <| step_holds m 16 _ <|
    step_holds m 32 _ <| step_holds m 64 _ <| step_holds m 128 _ ⟨0, rfl, .inl rfl, .inl rfl, le_rfl⟩

/-! ## The integer part -/

theorem int_part : ∀ n : Fin 256,
    let E := BitVec.ofNat 32 n.val
    let e := Scalar.select (IntOp.ori (IntOp.cmpi .eq E 0#32) (IntOp.cmpi .sge E 253#32)) 0#32 (IntOp.subi E 126#32)
    IntOp.addi e 127#32 = BitVec.ofNat 32 (if 1 ≤ n.val ∧ n.val ≤ 252 then n.val + 1 else 127)
    ∧ IntOp.addi (IntOp.subi 0#32 e) 127#32 = BitVec.ofNat 32 (if 1 ≤ n.val ∧ n.val ≤ 252 then 253 - n.val else 127) := by
  decide +kernel

theorem two_eq : FloatOps.ofBits (F := Ideal) .f32 0x40000000#32 = ((2 : ℝ) : EReal) := by
  show Ideal.ofBits .f32 _ = _
  simp [Ideal.ofBits, Ideal.ieee, -EReal.coe_mul]
  norm_num
theorem one_eq : FloatOps.ofBits (F := Ideal) .f32 0x3F800000#32 = ((1 : ℝ) : EReal) := by
  show Ideal.ofBits .f32 _ = _
  simp [Ideal.ofBits, Ideal.ieee, -EReal.coe_mul]
  norm_num
theorem zero_eq : FloatOps.ofBits (F := Ideal) .f32 0x00000000#32 = ((0 : ℝ) : EReal) := by
  show Ideal.ofBits .f32 _ = _
  simp [Ideal.ofBits, Ideal.ieee]

/-- The reference's exponent where `m` is between two consecutive powers of two of the normal range. -/
theorem expR_mid (m : EReal) (n : Nat) (h1 : 1 ≤ n) (h2 : n ≤ 252) (hlo : pow (BitVec.ofNat 32 n) ≤ m)
    (hhi : m < pow (BitVec.ofNat 32 (n + 1))) : expR m = (((n : ℤ) - 126 : ℤ) : ℝ) := by
  have ha : pow (BitVec.ofNat 32 1) ≤ m := (pow_mono 1 n le_rfl h1 (by omega)).trans hlo
  have hb : m < pow (BitVec.ofNat 32 253) := hhi.trans_le (pow_mono (n + 1) 253 (by omega) (by omega) (by omega))
  have ec : IntOp.andi (FloatOps.cmpf (F := Ideal) (φ := .f32) .oge m (FloatOps.ofBits (F := Ideal) .f32 0x00800000#32))
      (FloatOps.cmpf (F := Ideal) (φ := .f32) .olt m (FloatOps.ofBits (F := Ideal) .f32 0x7E800000#32)) = 1#1 := by
    show IntOp.andi (BitVec.ofBool (decide (pow (BitVec.ofNat 32 1) ≤ m))) (BitVec.ofBool (decide (m < pow (BitVec.ofNat 32 253)))) = _
    rw [decide_eq_true ha, decide_eq_true hb]; rfl
  rw [pow_of n h1 (by omega)] at hlo
  rw [pow_of (n + 1) (by omega) (by omega)] at hhi
  induction m using EReal.rec with
  | bot => exact absurd hlo (by simp)
  | top => exact absurd hhi (by simp)
  | coe r =>
    rw [EReal.coe_le_coe_iff] at hlo
    rw [EReal.coe_lt_coe_iff] at hhi
    have hp : (0 : ℝ) < 2 ^ ((n : ℤ) - 127) := zpow_pos (by norm_num) _
    have hr : 0 < r := hp.trans_le hlo
    have hl : Real.log 2 ≠ 0 := (Real.log_pos (by norm_num)).ne'
    have hfl : ⌊Real.log r * (1 / Real.log 2)⌋ = (n : ℤ) - 127 := by
      have hl2 : 0 < Real.log 2 := Real.log_pos (by norm_num)
      have lo := Real.log_le_log hp hlo
      have hi := Real.log_lt_log hr hhi
      rw [Real.log_zpow] at lo hi
      rw [mul_one_div, Int.floor_eq_iff, le_div_iff₀ hl2, div_lt_iff₀ hl2]
      refine ⟨lo, hi.trans_eq ?_⟩
      push_cast
      ring
    unfold expR
    rw [ec, two_eq, one_eq, Ideal.log_coe, Ideal.log_coe, if_neg (not_le.mpr hr), if_neg (by norm_num), Ideal.div_coe hl,
      ← EReal.coe_mul, Ideal.liftRound_coe, hfl, ← EReal.coe_add]
    show ((_ : ℝ) : EReal) = _
    congr 1
    push_cast
    ring

theorem expR_off (m : EReal) (h : ¬ pow (BitVec.ofNat 32 1) ≤ m ∨ ¬ m < pow (BitVec.ofNat 32 253)) : expR m = ((0 : ℝ) : EReal) := by
  have ec : IntOp.andi (FloatOps.cmpf (F := Ideal) (φ := .f32) .oge m (FloatOps.ofBits (F := Ideal) .f32 0x00800000#32))
      (FloatOps.cmpf (F := Ideal) (φ := .f32) .olt m (FloatOps.ofBits (F := Ideal) .f32 0x7E800000#32)) = 0#1 := by
    show IntOp.andi (BitVec.ofBool (decide (pow (BitVec.ofNat 32 1) ≤ m))) (BitVec.ofBool (decide (m < pow (BitVec.ofNat 32 253)))) = _
    rcases h with h | h
    · rw [decide_eq_false h]; cases decide (m < pow (BitVec.ofNat 32 253)) <;> rfl
    · rw [decide_eq_false h]; cases decide (pow (BitVec.ofNat 32 1) ≤ m) <;> rfl
  unfold expR
  rw [ec, zero_eq]
  rfl

/-- The exponent of zero is zero. -/
theorem expK_zero : expK 0 = 0#32 := by
  obtain ⟨n, hn, h0, h1, h2⟩ := biased_holds 0
  have hz : n = 0 := by
    by_contra hne
    have h := h0.resolve_left hne
    have h' := (pow_mono 1 n le_rfl (by omega) (by omega)).trans h
    rw [pow_of 1 le_rfl (by omega)] at h'
    rw [← EReal.coe_zero, EReal.coe_le_coe_iff] at h'
    exact absurd h' (not_le.mpr (zpow_pos (by norm_num) _))
  unfold expK
  rw [hn, hz]
  decide +kernel

/-- The kernel's scale and inverse scale are the reference's, for every extended real. -/
theorem scale_eq (m : EReal) : powK (expK m) = Ideal.exp2 (expR m)
    ∧ powK (IntOp.subi 0#32 (expK m)) = Ideal.exp2 (FloatOps.ofBits (F := Ideal) .f32 0x00000000#32 - expR m) := by
  obtain ⟨n, hn, h0, h1, h2⟩ := biased_holds m
  obtain ⟨i1, i2⟩ := int_part ⟨n, by omega⟩
  dsimp only at i1 i2
  unfold powK expK
  rw [hn, i1, i2, zero_eq]
  by_cases hm : 1 ≤ n ∧ n ≤ 252
  · rw [if_pos hm, if_pos hm, pow_of _ (by omega) (by omega), pow_of _ (by omega) (by omega),
      expR_mid m n hm.1 hm.2 (h0.resolve_left (by omega)) (h1.resolve_left (by omega)), ← EReal.coe_sub, Ideal.exp2_coe, Ideal.exp2_coe]
    constructor
    · congr 1
      show _ = (2 : ℝ) ^ (((n : ℤ) - 126 : ℤ) : ℝ)
      rw [Real.rpow_intCast]
      congr 1
      push_cast
      ring
    · congr 1
      show _ = (2 : ℝ) ^ ((0 : ℝ) - (((n : ℤ) - 126 : ℤ) : ℝ))
      rw [show (0 : ℝ) - (((n : ℤ) - 126 : ℤ) : ℝ) = ((126 - (n : ℤ) : ℤ) : ℝ) by push_cast; ring, Real.rpow_intCast]
      congr 1
      omega
  · have hoff : ¬ pow (BitVec.ofNat 32 1) ≤ m ∨ ¬ m < pow (BitVec.ofNat 32 253) := by
      by_cases hz : n = 0
      · subst hz; exact .inl (not_le.mpr (h1.resolve_left (by omega)))
      · exact .inr (not_lt.mpr ((pow_mono 253 n (by omega) (by omega) (by omega)).trans (h0.resolve_left hz)))
    rw [if_neg hm, if_neg hm, pow_of 127 (by omega) (by omega), expR_off m hoff, ← EReal.coe_sub, Ideal.exp2_coe, Ideal.exp2_coe]
    norm_num

end Cert.Exponent
-- ==== Proof.QuantReal.lean ====
/-
  One row of the quantiser on the extended reals: the scale of a row and the code of an entry.
-/
module

public import proofs.«01_k».proof.Defs
public import proofs.«01_k».proof.Proof.Exponent
public import proofs.«01_k».proof.Proof.Gen.KernelIdeal.Frame
public import proofs.«01_k».proof.Proof.Gen.ReferenceIdeal.Frame
public import Idealize.ShloMosaic.Lib.Pointwise

@[expose] public section

set_option maxRecDepth 16384

noncomputable section

namespace Cert.QuantReal

open Idealize.ShloMosaic Idealize.ShloMosaic.TcCoe Cert.Exponent

/-- The largest magnitude of a row times 1/448: what the scale is the power of two above. -/
def ratio (a : EReal) : EReal := a * FloatOps.ofBits (F := Ideal) .f32 0x3B124925#32

/-- The largest magnitude of a row: the maximum, from minus infinity, of the absolute values of its entries. -/
def amax (row : Fin 6144 → EReal) : EReal :=
  (Finset.univ : Finset (Fin 6144)).fold max (FloatOps.ofBits (F := Ideal) .f32 0xFF800000#32) (fun k => max (row k) (-row k))

/-- The scale of a row. -/
def scale (row : Fin 6144 → EReal) : EReal := Ideal.exp2 (expR (ratio (amax row)))

/-- An entry `x` times two to the minus `e`, clipped to ±448. -/
def clip (x e : EReal) : EReal :=
  min (FloatOps.ofBits (F := Ideal) .f32 0x43E00000#32) (max (FloatOps.ofBits (F := Ideal) .f32 0xC3E00000#32)
    (x * Ideal.exp2 (FloatOps.ofBits (F := Ideal) .f32 0x00000000#32 - e)))

/-- The code of an entry `x` of a row: the entry times the inverse scale, clipped to ±448. -/
def code (x : EReal) (row : Fin 6144 → EReal) : EReal := clip x (expR (ratio (amax row)))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The kernel's tile -/
section Kernel
open Cert.KernelIdeal Cert.KernelIdeal.Gen

theorem k_amax (x : Vec Ideal S1x256x6144 .bf16) (i : S256x1.Idx) :
    k0_pay2 (F := Ideal) x i = amax (fun k => x (ix3 0 (i 0) k)) := by
  idx_vars i
  unfold k0_pay2 k0_pay1 amax
  simp only [pointwise]
  try rfl

/-- One step of the bisection on a column. -/
def vstep (m : FVec Ideal S256x1 .f32) (b : BitVec 32) (E : IVec S256x1 32) : IVec S256x1 32 :=
  select (cmpf .oge m (bitcastToFloat .f32 (shli (addi E (broadcast S256x1 b)) (broadcast S256x1 23#32))))
    (addi E (broadcast S256x1 b)) E

theorem vstep_apply (m : FVec Ideal S256x1 .f32) (b : BitVec 32) (E : IVec S256x1 32) (i : S256x1.Idx) :
    vstep m b E i = step (m i) b (E i) := rfl

theorem k_high (x : Vec Ideal S1x256x6144 .bf16) :
    k0_pay4 (F := Ideal) x = vstep (k0_pay3 x) 32#32 (vstep (k0_pay3 x) 64#32 (vstep (k0_pay3 x) 128#32 (broadcast S256x1 0#32))) := by
  unfold k0_pay4
  generalize k0_pay3 (F := Ideal) x = m
  rfl

theorem k_low (m : FVec Ideal S256x1 .f32) (E : IVec S256x1 32) :
    k0_pay6 (F := Ideal) m E (bitcastToFloat .f32 (shli (addi E (broadcast S256x1 16#32)) (broadcast S256x1 23#32)))
      = vstep m 1#32 (vstep m 2#32 (vstep m 4#32 (vstep m 8#32 (vstep m 16#32 E)))) := by
  unfold k0_pay6
  rfl

/-- The product with the broadcast 1/448, entry by entry. -/
theorem mul_ratio (v : FVec Ideal S256x1 .f32) (i : S256x1.Idx) :
    mulf v (broadcast S256x1 (Scalar.ofBits (F := Ideal) .f32 0x3B124925#32)) i = ratio (v i) := rfl

theorem k_ratio (x : Vec Ideal S1x256x6144 .bf16) (i : S256x1.Idx) :
    k0_pay3 (F := Ideal) x i = ratio (k0_pay2 (F := Ideal) x i) := by
  unfold k0_pay3
  exact mul_ratio _ _

theorem k_high_at (x : Vec Ideal S1x256x6144 .bf16) (i : S256x1.Idx) :
    k0_pay4 (F := Ideal) x i = step (k0_pay3 (F := Ideal) x i) 32#32 (step (k0_pay3 (F := Ideal) x i) 64#32
      (step (k0_pay3 (F := Ideal) x i) 128#32 0#32)) := by
  rw [k_high, vstep_apply, vstep_apply, vstep_apply]
  exact Eq.refl _

theorem k_low_at (m : FVec Ideal S256x1 .f32) (E : IVec S256x1 32) (i : S256x1.Idx) :
    k0_pay6 (F := Ideal) m E (bitcastToFloat .f32 (shli (addi E (broadcast S256x1 16#32)) (broadcast S256x1 23#32))) i
      = step (m i) 1#32 (step (m i) 2#32 (step (m i) 4#32 (step (m i) 8#32 (step (m i) 16#32 (E i))))) := by
  rw [k_low, vstep_apply, vstep_apply, vstep_apply, vstep_apply, vstep_apply]

theorem k_probe (x : Vec Ideal S1x256x6144 .bf16) : k0_pay15 (F := Ideal) x
    = bitcastToFloat .f32 (shli (addi (k0_pay14 (F := Ideal) x) (broadcast S256x1 16#32)) (broadcast S256x1 23#32)) := by
  unfold k0_pay15 k0_pay5 k0_pay14
  rfl

theorem k_biased (x : Vec Ideal S1x256x6144 .bf16) (i : S256x1.Idx) :
    k0_pay16 (F := Ideal) x i = biased (ratio (k0_pay12 (F := Ideal) x i)) := by
  rw [k0_pay16, k_probe, k_low_at, k0_pay14, k_high_at, k0_pay13, k0_pay12, k_ratio, biased]

theorem k_cut (m : FVec Ideal S256x1 .f32) (E : IVec S256x1 32) (p : FVec Ideal S256x1 .f32) (i : S256x1.Idx) :
    k0_pay7 (F := Ideal) m E p i = IntOp.ori (IntOp.cmpi .eq (k0_pay6 (F := Ideal) m E p i) 0#32)
      (IntOp.cmpi .sge (k0_pay6 (F := Ideal) m E p i) 253#32) := by
  unfold k0_pay7
  generalize k0_pay6 (F := Ideal) m E p = v
  rfl

theorem k_sel (a : FVec Ideal S256x1 .f32) (b : IVec S256x1 32) (c : IVec S256x1 1) (i : S256x1.Idx) :
    k0_pay8 (F := Ideal) a b c i
      = Scalar.select (FloatOps.cmpf (F := Ideal) (φ := .f32) .oeq (a i) (FloatOps.ofBits (F := Ideal) .f32 0x00000000#32))
          0#32 (Scalar.select (c i) 0#32 (IntOp.subi (b i) 126#32)) := rfl

/-- Setting the exponent of zero to zero changes nothing where it is zero already. -/
theorem sel_zero (a : EReal) (e : BitVec 32) (h : a = 0 → e = 0#32) :
    Scalar.select (FloatOps.cmpf (F := Ideal) (φ := .f32) .oeq a (FloatOps.ofBits (F := Ideal) .f32 0x00000000#32)) 0#32 e = e := by
  by_cases hz : a = 0
  · rw [h hz]
    exact ite_self _
  · show (if BitVec.ofBool (decide (a = FloatOps.ofBits (F := Ideal) .f32 0x00000000#32)) = 1 then _ else _) = _
    rw [zero_eq, EReal.coe_zero, decide_eq_false hz]
    exact if_neg (by decide)

theorem ratio_zero : ratio 0 = 0 := by
  exact zero_mul _

theorem k_exp (x : Vec Ideal S1x256x6144 .bf16) (i : S256x1.Idx) :
    k0_pay8 (F := Ideal) (k0_pay12 x) (k0_pay16 x) (k0_pay17 x) i = expK (ratio (k0_pay12 (F := Ideal) x i)) := by
  have h : Scalar.select (k0_pay17 (F := Ideal) x i) 0#32 (IntOp.subi (k0_pay16 (F := Ideal) x i) 126#32)
      = expK (ratio (k0_pay12 (F := Ideal) x i)) := by
    rw [k0_pay17, k_cut, ← k0_pay16, k_biased, expK]
  rw [k_sel, h]
  exact sel_zero _ _ fun hz => by rw [hz, ratio_zero, expK_zero]

theorem k_scale (x : Vec Ideal S1x256x6144 .bf16) (i : S256x1.Idx) :
    k0_pay9 (F := Ideal) (k0_pay12 x) (k0_pay16 x) (k0_pay17 x) i = scale fun k => View.ld x r0_0 (ix3 0 (i 0) k) := by
  have h : k0_pay9 (F := Ideal) (k0_pay12 x) (k0_pay16 x) (k0_pay17 x) i
      = powK (k0_pay8 (F := Ideal) (k0_pay12 x) (k0_pay16 x) (k0_pay17 x) i) := rfl
  rw [h, k_exp, (scale_eq _).1, k0_pay12, k_amax]
  rfl

theorem k_row (x : Vec Ideal S1x256x6144 .bf16) (i : S1x1x256.Idx) :
    k0_pay11 (F := Ideal) (k0_pay12 x) (k0_pay16 x) (k0_pay17 x) i = scale fun k => View.ld x r0_0 (ix3 0 (i 2) k) := by
  rw [show (scale fun k => View.ld x r0_0 (ix3 0 (i 2) k)) = k0_pay9 (F := Ideal) (k0_pay12 x) (k0_pay16 x) (k0_pay17 x) (ix2 (i 2) 0)
    from (k_scale x (ix2 (i 2) 0)).symm]
  unfold k0_pay11
  generalize k0_pay9 (F := Ideal) (k0_pay12 x) (k0_pay16 x) (k0_pay17 x) = v
  idx_vars i
  simp only [pointwise]
  refine congrArg v (congrArg₂ ix2 (Fin.ext ?_) (Fin.ext (by simp)))
  show (![0, 0] : Fin 2 → Nat) 1 + i2.val = i2.val
  exact Nat.zero_add _

theorem k_code (x : Vec Ideal S1x256x6144 .bf16) (i : S1x256x6144.Idx) :
    k0_pay10 (F := Ideal) (k0_pay1 (View.ld x r0_0)) (k0_pay12 x) (k0_pay16 x) (k0_pay17 x) i
      = code (View.ld x r0_0 i) fun k => View.ld x r0_0 (ix3 0 (i 1) k) := by
  have he : Ideal.exp2 (FloatOps.ofBits (F := Ideal) .f32 0x00000000#32 - expR (ratio (amax fun k => View.ld x r0_0 (ix3 0 (i 1) k))))
      = powK (IntOp.subi 0#32 (k0_pay8 (F := Ideal) (k0_pay12 x) (k0_pay16 x) (k0_pay17 x) (ix2 (i 1) 0))) := by
    rw [k_exp, (scale_eq _).2, k0_pay12, k_amax]
    rfl
  unfold code clip
  rw [he]
  unfold k0_pay10 k0_pay1
  generalize k0_pay8 (F := Ideal) (k0_pay12 x) (k0_pay16 x) (k0_pay17 x) = v
  generalize View.ld x r0_0 = z
  idx_vars i
  obtain rfl : i0 = 0 := Subsingleton.elim _ _
  simp only [pointwise]
  try rfl

/-- The scale column a point leaves. -/
theorem k_out2 (x : Vec Ideal S1x256x6144 .bf16) (i : S256x1.Idx) :
    out0_2 (F := Ideal) x i = scale fun k => x (ix3 0 (i 0) k) := by
  unfold out0_2
  rw [View.canon_unit_zero hz2, k_scale, View.ld_unit_zero (S := S1x256x6144) hz3 _ x]

/-- The scale row a point leaves. -/
theorem k_out3 (x : Vec Ideal S1x256x6144 .bf16) (i : S1x1x256.Idx) :
    out0_3 (F := Ideal) x i = scale fun k => x (ix3 0 (i 2) k) := by
  unfold out0_3
  rw [View.canon_unit_zero hz3, k_row, View.ld_unit_zero (S := S1x256x6144) hz3 _ x]

/-- The codes a point leaves. -/
theorem k_out1 (x : Vec Ideal S1x256x6144 .bf16) (i : S1x256x6144.Idx) :
    out0_1 (F := Ideal) x i = code (x i) fun k => x (ix3 0 (i 1) k) := by
  unfold out0_1
  rw [View.canon_unit_zero hz3, k_code, View.ld_unit_zero (S := S1x256x6144) hz3 _ x]
end Kernel

/-! ## The reference's values -/
section Ref
open Cert.ReferenceIdeal Cert.ReferenceIdeal.Gen

/-- The column of the largest magnitudes. -/
def rcol (x : Vec Ideal S3x1024x6144 .bf16) : FVec Ideal S3x1024x1 .f32 :=
  shapeCast S3x1024x1 (multiReduction .maximumf [2] S3x1024 (absf (k0_pay3 (F := Ideal) x)) 0xFF800000#32
    reduces_S3x1024x6144_S3x1024 (.inl rfl) rfl) shapeCasts_S3x1024_S3x1024x1

theorem rcol_apply (x : Vec Ideal S3x1024x6144 .bf16) (i : Fin 3) (j : Fin 1024) :
    rcol x (ix3 i j 0) = amax fun k => x (ix3 i j k) := by
  unfold rcol k0_pay3 amax
  simp only [pointwise]
  try rfl

/-- The exponents from the largest magnitudes. -/
def rexp (v : FVec Ideal S3x1024x1 .f32) : FVec Ideal S3x1024x1 .f32 :=
  have m : FVec Ideal S3x1024x1 .f32 := mulf v (broadcast S3x1024x1 (Scalar.ofBits (F := Ideal) .f32 0x3B124925#32))
  select (andi (cmpf .oge m (broadcast S3x1024x1 (Scalar.ofBits (F := Ideal) .f32 0x00800000#32)))
      (cmpf .olt m (broadcast S3x1024x1 (Scalar.ofBits (F := Ideal) .f32 0x7E800000#32))))
    (addf (floor (divf (log m) (log (broadcast S3x1024x1 (Scalar.ofBits (F := Ideal) .f32 0x40000000#32)))))
      (broadcast S3x1024x1 (Scalar.ofBits (F := Ideal) .f32 0x3F800000#32)))
    (broadcast S3x1024x1 (Scalar.ofBits (F := Ideal) .f32 0x00000000#32))

theorem rexp_apply (v : FVec Ideal S3x1024x1 .f32) (i : S3x1024x1.Idx) : rexp v i = expR (ratio (v i)) := rfl

theorem pay4_eq (x : Vec Ideal S3x1024x6144 .bf16) : k0_pay4 (F := Ideal) x = rexp (rcol x) := rfl

theorem r_amax (x : Vec Ideal S3x1024x6144 .bf16) (i : Fin 3) (j : Fin 1024) :
    k0_pay4 (F := Ideal) x (ix3 i j 0) = expR (ratio (amax fun k => x (ix3 i j k))) := by
  rw [pay4_eq, rexp_apply, rcol_apply]

theorem exp2_at (v : FVec Ideal S3x1024x1 .f32) (i : S3x1024x1.Idx) : exp2 v i = Ideal.exp2 (v i) := rfl

theorem r_scale (x : Vec Ideal S3x1024x6144 .bf16) (i : Fin 3) (j : Fin 1024) :
    k0_pay5 (F := Ideal) x (ix3 i j 0) = scale fun k => x (ix3 i j k) := by
  have h : k0_pay5 (F := Ideal) x (ix3 i j 0) = Ideal.exp2 (k0_pay4 (F := Ideal) x (ix3 i j 0)) := by
    unfold k0_pay5
    exact exp2_at _ _
  rw [h, r_amax]
  unfold scale
  exact Eq.refl _

/-- A column spread over the rows. -/
theorem spread_at (v : FVec Ideal S3x1024x1 .f32) (i : Fin 3) (j : Fin 1024) (k : Fin 6144) :
    broadcastTo S3x1024x6144 v broadcasts_S3x1024x1_S3x1024x6144 (ix3 i j k) = v (ix3 i j 0) := by
  simp only [pointwise]
  try rfl

theorem inv_at (v : FVec Ideal S3x1024x1 .f32) (i : S3x1024x1.Idx) :
    exp2 (subf (broadcast S3x1024x1 (Scalar.ofBits (F := Ideal) .f32 0x00000000#32)) v) i
      = Ideal.exp2 (FloatOps.ofBits (F := Ideal) .f32 0x00000000#32 - v i) := rfl

theorem clip_at (x : Vec Ideal S3x1024x6144 .bf16) (w : FVec Ideal S3x1024x6144 .f32) (i : S3x1024x6144.Idx) :
    (truncf .fp8e4m3 (minimumf (broadcast S3x1024x6144 (Scalar.ofBits (F := Ideal) .f32 0x43E00000#32))
        (maximumf (broadcast S3x1024x6144 (Scalar.ofBits (F := Ideal) .f32 0xC3E00000#32))
          (mulf (extf .f32 x bitsLt_bf16_f32) w))) bitsLt_fp8e4m3_f32 : FVec Ideal S3x1024x6144 .fp8e4m3) i
      = (min (FloatOps.ofBits (F := Ideal) .f32 0x43E00000#32) (max (FloatOps.ofBits (F := Ideal) .f32 0xC3E00000#32)
          ((x i : EReal) * (w i : EReal))) : EReal) := rfl

theorem r_clip (x : Vec Ideal S3x1024x6144 .bf16) (i : Fin 3) (j : Fin 1024) (k : Fin 6144) :
    k0_pay6 (F := Ideal) x (ix3 i j k) = clip (x (ix3 i j k)) (k0_pay4 (F := Ideal) x (ix3 i j 0)) := by
  unfold k0_pay6 k0_pay3
  generalize k0_pay4 (F := Ideal) x = v
  refine (clip_at x _ (ix3 i j k)).trans ?_
  rw [spread_at, inv_at, clip]

theorem r_code (x : Vec Ideal S3x1024x6144 .bf16) (i : Fin 3) (j : Fin 1024) (k : Fin 6144) :
    k0_pay6 (F := Ideal) x (ix3 i j k) = code (x (ix3 i j k)) fun k => x (ix3 i j k) := by
  rw [r_clip, r_amax, code]

end Ref
end Cert.QuantReal
-- ==== Proof.KernelQuant.lean ====
/-
  The quantiser stage of the whole kernel on the extended reals: its three arrays, from the activation it finds.
-/
module

public import proofs.«01_k».proof.Proof.QuantReal

@[expose] public section

set_option maxRecDepth 16384

noncomputable section

namespace Cert.QuantReal

open Idealize.ShloMosaic Idealize.ShloMosaic.TcCoe Idealize.SL.Sem Cert.KernelIdeal

/-- The codes of a whole activation. -/
def codes (x : Vec Ideal S3x1024x6144 .bf16) : Vec Ideal S3x1024x6144 .fp8e4m3 := fun y =>
  code (x y) fun k => x (ix3 (y 0) (y 1) k)

/-- The scales as a column: row `1024 b + r` is row `r` of batch `b`. -/
def scaleCol (x : Vec Ideal S3x1024x6144 .bf16) : Vec Ideal S3072x1 .f32 := fun y =>
  scale fun k => x (ix3 (⟨(y 0).val / 1024, by have h : (y 0).val < 3072 := (y 0).isLt; omega⟩ : Fin 3)
    (⟨(y 0).val % 1024, Nat.mod_lt _ (by decide)⟩ : Fin 1024) k)

/-- The scales as one row per batch. -/
def scaleRow (x : Vec Ideal S3x1024x6144 .bf16) : Vec Ideal S3x1x1024 .f32 := fun y =>
  scale fun k => x (ix3 (y 0) (y 2) k)

end Cert.QuantReal

namespace Cert.KernelIdeal.Stage0

open Cert.KernelIdeal Cert.KernelIdeal.Gen Idealize.ShloMosaic Idealize.ShloMosaic.TcCoe Idealize.SL.Sem
open Idealize.ShloMosaic.Pipeline (Dat)
open Cert.QuantReal

variable (V : (c : Dev nD) → (b : Ref sig .tc) → Buf (Elt Ideal) ((c : Thread nD τ).loc b))

/-- The block indices of every window: point `t` is batch `t / 4`, row block `t % 4`. -/
theorem idx : ∀ t : Fin grid0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val ∧ win0_2.index t 1 = 0)
    ∧ (win0_3.index t 0 = t.val / 4 ∧ win0_3.index t 1 = 0 ∧ win0_3.index t 2 = t.val % 4) := by
  decide +kernel

/-- The activation block of point `t`. -/
theorem iblk_apply (c : Dev nD) (t : Fin cfg0.N) (z : Fin 1) (r : Fin 256) (k : Fin 6144) (b' : Fin 3) (r' : Fin 1024)
    (hb : b'.val = t.val / 4) (hr : r'.val = t.val % 4 * 256 + r.val) :
    iblk0 V c 0 t (ix3 z r k) = V c main_arg0 (ix3 b' r' k) := by
  obtain ⟨⟨e0, e1, e2⟩, -⟩ := idx t
  refine congrArg (V c main_arg0) (funext fun a => Fin.ext ?_)
  match a with
  | ⟨0, _⟩ => show win0_0.index t 0 * 1 + 1 * z.val = b'.val; rw [e0]; omega
  | ⟨1, _⟩ => show win0_0.index t 1 * 256 + 1 * r.val = r'.val; rw [e1]; omega
  | ⟨2, _⟩ => show win0_0.index t 2 * 6144 + 1 * k.val = k.val; rw [e2]; omega

theorem flushed1 (c : Dev nD) (t : Fin cfg0.N) :
    (dat0 V c).flushed 1 t = ((cfg0.win 1).blk t).view.read (Elt Ideal) (codes (V c main_arg0)) := by
  obtain ⟨-, ⟨e0, e1, e2⟩, -⟩ := idx t
  have ht : t.val < 12 := lt_of_lt_of_eq t.isLt Gen.N_0
  show (cfg0.win 1).cut (grid0.coords t) ((dat0 V c).after 1 t) = _
  rw [after0_1]
  funext (j : S1x256x6144.Idx)
  have h0 : (j 0).val < 1 := (j 0).isLt
  have h1 : (j 1).val < 256 := (j 1).isLt
  have hb : t.val / 4 < 3 := by omega
  have hr : t.val % 4 * 256 + (j 1).val < 1024 := by omega
  have E : ((cfg0.win 1).blk t).view.emb j = ix3 (⟨t.val / 4, hb⟩ : Fin 3) (⟨t.val % 4 * 256 + (j 1).val, hr⟩ : Fin 1024) (j 2) := by
    funext a; apply Fin.ext
    match a with
    | ⟨0, _⟩ => show win0_1.index t 0 * 1 + 1 * (j 0).val = t.val / 4; rw [e0]; omega
    | ⟨1, _⟩ => show win0_1.index t 1 * 256 + 1 * (j 1).val = t.val % 4 * 256 + (j 1).val; rw [e1]; omega
    | ⟨2, _⟩ => show win0_1.index t 2 * 6144 + 1 * (j 2).val = (j 2).val; rw [e2]; omega
  show out0_1 (F := Ideal) (iblk0 V c 0 t) j = codes _ (((cfg0.win 1).blk t).view.emb j)
  rw [E, k_out1]
  idx_vars j
  rw [iblk_apply V c t j0 j1 j2 ⟨t.val / 4, hb⟩ ⟨t.val % 4 * 256 + j1.val, hr⟩ rfl rfl]
  have hrow : (fun k => iblk0 V c 0 t (ix3 0 j1 k)) = fun k : Fin 6144 => V c main_arg0 (ix3 (⟨t.val / 4, hb⟩ : Fin 3) (⟨t.val % 4 * 256 + j1.val, hr⟩ : Fin 1024) k) :=
    funext fun k => iblk_apply V c t 0 j1 k _ _ rfl rfl
  exact congrArg (code _) hrow

theorem flushed2 (c : Dev nD) (t : Fin cfg0.N) :
    (dat0 V c).flushed 2 t = ((cfg0.win 2).blk t).view.read (Elt Ideal) (scaleCol (V c main_arg0)) := by
  obtain ⟨-, -, ⟨e0, e1⟩, -⟩ := idx t
  have ht : t.val < 12 := lt_of_lt_of_eq t.isLt Gen.N_0
  show (cfg0.win 2).cut (grid0.coords t) ((dat0 V c).after 2 t) = _
  rw [after0_2]
  funext (j : S256x1.Idx)
  have h0 : (j 0).val < 256 := (j 0).isLt
  have hi : t.val * 256 + (j 0).val < 3072 := by omega
  have E : ((cfg0.win 2).blk t).view.emb j = ix2 (⟨t.val * 256 + (j 0).val, hi⟩ : Fin 3072) (j 1) := by
    funext a; apply Fin.ext
    match a with
    | ⟨0, _⟩ => show win0_2.index t 0 * 256 + 1 * (j 0).val = t.val * 256 + (j 0).val; rw [e0]; omega
    | ⟨1, _⟩ => show win0_2.index t 1 * 1 + 1 * (j 1).val = (j 1).val; rw [e1]; omega
  show out0_2 (F := Ideal) (iblk0 V c 0 t) j = scaleCol _ (((cfg0.win 2).blk t).view.emb j)
  rw [E, k_out2]
  idx_vars j
  refine congrArg scale (funext fun k => iblk_apply V c t 0 j0 k _ _ ?_ ?_)
  · show (t.val * 256 + j0.val) / 1024 = t.val / 4; omega
  · show (t.val * 256 + j0.val) % 1024 = t.val % 4 * 256 + j0.val; omega

theorem flushed3 (c : Dev nD) (t : Fin cfg0.N) :
    (dat0 V c).flushed 3 t = ((cfg0.win 3).blk t).view.read (Elt Ideal) (scaleRow (V c main_arg0)) := by
  obtain ⟨-, -, -, ⟨e0, e1, e2⟩⟩ := idx t
  have ht : t.val < 12 := lt_of_lt_of_eq t.isLt Gen.N_0
  show (cfg0.win 3).cut (grid0.coords t) ((dat0 V c).after 3 t) = _
  rw [after0_3]
  funext (j : S1x1x256.Idx)
  have h0 : (j 0).val < 1 := (j 0).isLt
  have h2 : (j 2).val < 256 := (j 2).isLt
  have hb : t.val / 4 < 3 := by omega
  have hr : t.val % 4 * 256 + (j 2).val < 1024 := by omega
  have E : ((cfg0.win 3).blk t).view.emb j = ix3 (⟨t.val / 4, hb⟩ : Fin 3) (j 1) (⟨t.val % 4 * 256 + (j 2).val, hr⟩ : Fin 1024) := by
    funext a; apply Fin.ext
    match a with
    | ⟨0, _⟩ => show win0_3.index t 0 * 1 + 1 * (j 0).val = t.val / 4; rw [e0]; omega
    | ⟨1, _⟩ => show win0_3.index t 1 * 1 + 1 * (j 1).val = (j 1).val; rw [e1]; omega
    | ⟨2, _⟩ => show win0_3.index t 2 * 256 + 1 * (j 2).val = t.val % 4 * 256 + (j 2).val; rw [e2]; omega
  show out0_3 (F := Ideal) (iblk0 V c 0 t) j = scaleRow _ (((cfg0.win 3).blk t).view.emb j)
  rw [E, k_out3]
  idx_vars j
  exact congrArg scale (funext fun k => iblk_apply V c t 0 j2 k _ _ rfl rfl)

theorem cover1 (i : S3x1024x6144.Idx) :
    ∃ t : Fin cfg0.N, (cfg0.win 1).flush t = true ∧ i ∈ ((cfg0.win 1).blk t).view.set := by
  have h0 : (i 0 : Nat) < 3 := (i 0).isLt
  have h1 : (i 1 : Nat) < 1024 := (i 1).isLt
  have h2 : (i 2 : Nat) < 6144 := (i 2).isLt
  obtain ⟨t, et⟩ : ∃ t : Fin cfg0.N, t.val = 4 * (i 0 : Nat) + (i 1 : Nat) / 256 :=
    ⟨⟨4 * (i 0 : Nat) + (i 1 : Nat) / 256, by show _ < grid0.N; rw [Gen.N_0]; omega⟩, rfl⟩
  obtain ⟨-, ⟨e0, e1, e2⟩, -⟩ := idx t
  refine ⟨t, flush0_1 _, ?_⟩
  show i ∈ ((View.whole main_v0_0).slice (win0_1.rect t)).set
  rw [View.set_slice_whole, Rect.mem_set_unit]
  intro a
  match a with
  | ⟨0, _⟩ => show win0_1.index t 0 * 1 ≤ (i 0 : Nat) ∧ (i 0 : Nat) < win0_1.index t 0 * 1 + 1; rw [e0]; omega
  | ⟨1, _⟩ => show win0_1.index t 1 * 256 ≤ (i 1 : Nat) ∧ (i 1 : Nat) < win0_1.index t 1 * 256 + 256; rw [e1]; omega
  | ⟨2, _⟩ => show win0_1.index t 2 * 6144 ≤ (i 2 : Nat) ∧ (i 2 : Nat) < win0_1.index t 2 * 6144 + 6144; rw [e2]; omega

theorem cover2 (i : S3072x1.Idx) :
    ∃ t : Fin cfg0.N, (cfg0.win 2).flush t = true ∧ i ∈ ((cfg0.win 2).blk t).view.set := by
  have h0 : (i 0 : Nat) < 3072 := (i 0).isLt
  have h1 : (i 1 : Nat) < 1 := (i 1).isLt
  obtain ⟨t, et⟩ : ∃ t : Fin cfg0.N, t.val = (i 0 : Nat) / 256 :=
    ⟨⟨(i 0 : Nat) / 256, by show _ < grid0.N; rw [Gen.N_0]; omega⟩, rfl⟩
  obtain ⟨-, -, ⟨e0, e1⟩, -⟩ := idx t
  refine ⟨t, flush0_2 _, ?_⟩
  show i ∈ ((View.whole main_v0_1).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256; rw [e0]; omega
  | ⟨1, _⟩ => show win0_2.index t 1 * 1 ≤ (i 1 : Nat) ∧ (i 1 : Nat) < win0_2.index t 1 * 1 + 1; rw [e1]; omega

theorem cover3 (i : S3x1x1024.Idx) :
    ∃ t : Fin cfg0.N, (cfg0.win 3).flush t = true ∧ i ∈ ((cfg0.win 3).blk t).view.set := by
  have h0 : (i 0 : Nat) < 3 := (i 0).isLt
  have h1 : (i 1 : Nat) < 1 := (i 1).isLt
  have h2 : (i 2 : Nat) < 1024 := (i 2).isLt
  obtain ⟨t, et⟩ : ∃ t : Fin cfg0.N, t.val = 4 * (i 0 : Nat) + (i 2 : Nat) / 256 :=
    ⟨⟨4 * (i 0 : Nat) + (i 2 : Nat) / 256, by show _ < grid0.N; rw [Gen.N_0]; omega⟩, rfl⟩
  obtain ⟨-, -, -, ⟨e0, e1, e2⟩⟩ := idx t
  refine ⟨t, flush0_3 _, ?_⟩
  show i ∈ ((View.whole main_v0_2).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; rw [e0]; omega
  | ⟨1, _⟩ => show win0_3.index t 1 * 1 ≤ (i 1 : Nat) ∧ (i 1 : Nat) < win0_3.index t 1 * 1 + 1; rw [e1]; omega
  | ⟨2, _⟩ => show win0_3.index t 2 * 256 ≤ (i 2 : Nat) ∧ (i 2 : Nat) < win0_3.index t 2 * 256 + 256; rw [e2]; omega

/-- The three arrays after the stage. -/
theorem final1 (c : Dev nD) : (dat0 V c).arrAt 1 cfg0.N = codes (V c main_arg0) :=
  (dat0 V c).arrAt_eq_of_cover 1 _ (fun t _ => flushed1 V c t) cover1
theorem final2 (c : Dev nD) : (dat0 V c).arrAt 2 cfg0.N = scaleCol (V c main_arg0) :=
  (dat0 V c).arrAt_eq_of_cover 2 _ (fun t _ => flushed2 V c t) cover2
theorem final3 (c : Dev nD) : (dat0 V c).arrAt 3 cfg0.N = scaleRow (V c main_arg0) :=
  (dat0 V c).arrAt_eq_of_cover 3 _ (fun t _ => flushed3 V c t) cover3

end Cert.KernelIdeal.Stage0
-- ==== Proof.KernelMatmul.lean ====
/-
  The matmul stage of the whole kernel: the blocks of its 17 grid points are the column blocks of one array.

  The stage is the matmul kernel fed by the quantiser's codes and scales.  Its tiles are the tiles of the matmul
  kernel alone, so `tile_eq_block` and `result` are taken from there; `V` is what the stage finds in its arrays.
-/
module

public import proofs.«01_k».proof.Proof.MatmulArray
public import proofs.«01_k».proof.Proof.Gen.KernelIdeal.Frame

@[expose] public section

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.Pipeline (Dat)
open Cert.MatmulIdeal.Tile (entry row block tile_eq_block result hz2)

/-- A tile of the stage is the matmul kernel's tile: the scales pass through a cast to their own shape first. -/
theorem tile_eq (w : Vec Ideal S6144x512 .fp8e4m3) (ws b : Vec Ideal S512 .f32) (x : Vec Ideal S1x512x6144 .fp8e4m3)
    (xs : Vec Ideal S512x1 .f32) : k1_pay5 (F := Ideal) w ws b x xs = Cert.MatmulIdeal.Tile.tile w ws b x xs := by
  funext y
  idx_vars y
  unfold k1_pay5 k1_pay3 k1_pay4 Cert.MatmulIdeal.Tile.tile Cert.MatmulIdeal.Gen.k0_pay5 Cert.MatmulIdeal.Gen.k0_pay3 Cert.MatmulIdeal.Gen.k0_pay4
  simp only [pointwise]
  try rfl

/-- Grid point `i` reads the column scales and the biases from column `512 i` on. -/
theorem off_eq (i : grid1.Coords) : k1_off1 i = ![512 * (i 0).val] := by
  have key : ∀ k : Fin 17, (Scalar.indexCast (Scalar.muli (BitVec.ofNat 32 k.val) (512#32))).toNat = 512 * k.val := by
    decide +kernel
  show ![(Scalar.indexCast (Scalar.muli (BitVec.ofNat 32 (i 0).val) (512#32))).toNat] = _
  rw [key (i 0)]

/-- What the body leaves in the result's staging buffer, from the blocks it loads, is `block`. -/
theorem out_eq (c : Dev nD) (i : grid1.Coords) (a1 : Memref sig .tc .vmem S3x1024x6144 .fp8e4m3) (h1 : a1.IsWhole)
    (a2 : Memref sig .tc .vmem S3072x1 .f32) (h2 : a2.IsWhole) (a3 : Memref sig .tc .vmem S6144x512 .fp8e4m3) (h3 : a3.IsWhole)
    (a4 : Memref sig .tc .vmem S8704 .f32) (h4 : a4.IsWhole) (a5 : Memref sig .tc .vmem S8704 .f32) (h5 : a5.IsWhole)
    (a6 : Memref sig .tc .vmem S384x8x512 .bf16) (h6 : a6.IsWhole)
    (x : Vec Ideal S3x1024x6144 .fp8e4m3) (xs : Vec Ideal S3072x1 .f32) (w : Vec Ideal S6144x512 .fp8e4m3)
    (ws b : Vec Ideal S8704 .f32) (ho : 512 * (i 0).val + 512 ≤ 8704) :
    out1_A_5 (F := Ideal) c i a1 h1 a2 h2 a3 h3 a4 h4 a5 h5 a6 h6 x xs w ws b
      = block (512 * (i 0).val) ho x xs w ws b := by
  funext y
  unfold out1_A_5
  rw [View.read_writes_eq_canon _ _ _ (cover1_A_5 c i a1 h1 a2 h2 a3 h3 a4 h4 a5 h5 a6 h6 x xs w ws b)]
  refine View.canon_apply_of_pieces _ _ ?_ y (cover1_A_5 c i a1 h1 a2 h2 a3 h3 a4 h4 a5 h5 a6 h6 x xs w ws b y)
  unfold kernelRun1_A
  dsimp only
  sl_unfold_words
  simp only [View.readAt_eq_ld, h1.read_unread, h2.read_unread, h3.read_unread, h4.read_unread, h5.read_unread,
    View.ld_unit_zero (S := S6144x512) hz2]
  intro p hp
  simp only [List.mem_cons, List.not_mem_nil, or_false] at hp
  rcases hp with rfl | rfl | rfl | rfl | rfl | rfl <;> intro z
  · exact (congrFun (tile_eq _ _ _ _ _) z).trans (tile_eq_block 2 512 2560 320 rfl rfl (by decide) _ ho _ (off_eq i) x xs w ws b inb_S3x1024x6144_S1x512x6144_2_512_0
      inb_S3072x1_S512x1_2560_0 (k1_off1_inb i) inb_S384x8x512_S64x8x512_320_0_0 z)
  · exact (congrFun (tile_eq _ _ _ _ _) z).trans (tile_eq_block 2 0 2048 256 rfl rfl (by decide) _ ho _ (off_eq i) x xs w ws b inb_S3x1024x6144_S1x512x6144_2_0_0
      inb_S3072x1_S512x1_2048_0 (k1_off1_inb i) inb_S384x8x512_S64x8x512_256_0_0 z)
  · exact (congrFun (tile_eq _ _ _ _ _) z).trans (tile_eq_block 1 512 1536 192 rfl rfl (by decide) _ ho _ (off_eq i) x xs w ws b inb_S3x1024x6144_S1x512x6144_1_512_0
      inb_S3072x1_S512x1_1536_0 (k1_off1_inb i) inb_S384x8x512_S64x8x512_192_0_0 z)
  · exact (congrFun (tile_eq _ _ _ _ _) z).trans (tile_eq_block 1 0 1024 128 rfl rfl (by decide) _ ho _ (off_eq i) x xs w ws b inb_S3x1024x6144_S1x512x6144_1_0_0
      inb_S3072x1_S512x1_1024_0 (k1_off1_inb i) inb_S384x8x512_S64x8x512_128_0_0 z)
  · exact (congrFun (tile_eq _ _ _ _ _) z).trans (tile_eq_block 0 512 512 64 rfl rfl (by decide) _ ho _ (off_eq i) x xs w ws b inb_S3x1024x6144_S1x512x6144_0_512_0
      inb_S3072x1_S512x1_512_0 (k1_off1_inb i) inb_S384x8x512_S64x8x512_64_0_0 z)
  · exact (congrFun (tile_eq _ _ _ _ _) z).trans (tile_eq_block 0 0 0 0 rfl rfl (by decide) _ ho _ (off_eq i) x xs w ws b inb_S3x1024x6144_S1x512x6144_0_0_0
      inb_S3072x1_S512x1_0_0 (k1_off1_inb i) inb_S384x8x512_S64x8x512_0_0_0 z)

variable (V : (c : Dev nD) → (b : Ref sig .tc) → Buf (Elt Ideal) ((c : Thread nD τ).loc b))

/-- The block indices of every window, as functions of the grid point. -/
theorem idx_closed : ∀ t : Fin grid1.N,
    (win1_0.index t 0 = 0 ∧ win1_0.index t 1 = 0 ∧ win1_0.index t 2 = 0) ∧ (win1_1.index t 0 = 0 ∧ win1_1.index t 1 = 0)
    ∧ (win1_2.index t 0 = 0 ∧ win1_2.index t 1 = t.val) ∧ win1_3.index t 0 = 0 ∧ win1_4.index t 0 = 0
    ∧ (win1_5.index t 0 = 0 ∧ win1_5.index t 1 = 0 ∧ win1_5.index t 2 = t.val) ∧ (grid1.coords t 0).val = t.val := by
  decide +kernel

theorem iblk0_eq (c : Dev nD) (t : Fin cfg1.N) : iblk1 V c 0 t = V c main_v0_0 := by
  obtain ⟨⟨e0, e1, e2⟩, -⟩ := idx_closed t
  funext j
  refine congrArg (V c main_v0_0) (funext fun a => Fin.ext ?_)
  match a with
  | ⟨0, _⟩ => show win1_0.index t 0 * 3 + 1 * (j 0).val = (j 0).val; rw [e0]; omega
  | ⟨1, _⟩ => show win1_0.index t 1 * 1024 + 1 * (j 1).val = (j 1).val; rw [e1]; omega
  | ⟨2, _⟩ => show win1_0.index t 2 * 6144 + 1 * (j 2).val = (j 2).val; rw [e2]; omega

theorem iblk1_eq (c : Dev nD) (t : Fin cfg1.N) : iblk1 V c 1 t = V c main_v0_1 := by
  obtain ⟨-, ⟨e0, e1⟩, -⟩ := idx_closed t
  funext j
  refine congrArg (V c main_v0_1) (funext fun a => Fin.ext ?_)
  match a with
  | ⟨0, _⟩ => show win1_1.index t 0 * 3072 + 1 * (j 0).val = (j 0).val; rw [e0]; omega
  | ⟨1, _⟩ => show win1_1.index t 1 * 1 + 1 * (j 1).val = (j 1).val; rw [e1]; omega

theorem iblk3_eq (c : Dev nD) (t : Fin cfg1.N) : iblk1 V c 3 t = V c main_arg2 := by
  obtain ⟨-, -, -, e0, -⟩ := idx_closed t
  funext j
  refine congrArg (V c main_arg2) (funext fun a => Fin.ext ?_)
  match a with
  | ⟨0, _⟩ => show win1_3.index t 0 * 8704 + 1 * (j 0).val = (j 0).val; rw [e0]; omega

theorem iblk4_eq (c : Dev nD) (t : Fin cfg1.N) : iblk1 V c 4 t = V c main_arg3 := by
  obtain ⟨-, -, -, -, e0, -⟩ := idx_closed t
  funext j
  refine congrArg (V c main_arg3) (funext fun a => Fin.ext ?_)
  match a with
  | ⟨0, _⟩ => show win1_4.index t 0 * 8704 + 1 * (j 0).val = (j 0).val; rw [e0]; omega

/-- The weight block of point `t`: columns `512 t` on. -/
theorem iblk2_apply (c : Dev nD) (t : Fin cfg1.N) (k : Fin 6144) (n : Fin 512) (n' : Fin 8704)
    (hn : n'.val = t.val * 512 + n.val) :
    iblk1 V c 2 t (ix2 k n) = V c main_arg1 (ix2 k n') := by
  obtain ⟨-, -, ⟨e0, e1⟩, -⟩ := idx_closed t
  refine congrArg (V c main_arg1) (funext fun a => Fin.ext ?_)
  match a with
  | ⟨0, _⟩ => show win1_2.index t 0 * 6144 + 1 * k.val = k.val; rw [e0]; omega
  | ⟨1, _⟩ => show win1_2.index t 1 * 512 + 1 * n.val = n'.val; rw [e1, hn]; omega

/-- The whole result of device `c`'s arguments. -/
abbrev res (c : Dev nD) : Vec Ideal S384x8x8704 .bf16 :=
  result (V c main_v0_0) (V c main_v0_1) (V c main_arg1)
    (V c main_arg2) (V c main_arg3)

/-- What point `t` writes back is its column block of the whole result. -/
theorem flushed_eq (c : Dev nD) (t : Fin cfg1.N) :
    (dat1 V c).flushed 5 t = ((cfg1.win 5).blk t).view.read (Elt Ideal) (res V c) := by
  obtain ⟨-, -, -, -, -, ⟨e0, e1, e2⟩, et⟩ := idx_closed t
  have ht : t.val < 17 := lt_of_lt_of_eq t.isLt Gen.N_1
  have ho : 512 * (grid1.coords t 0).val + 512 ≤ 8704 := by rw [et]; omega
  show (cfg1.win 5).cut (grid1.coords t) ((dat1 V c).after 5 t) = _
  rw [after1_5, outsAt1, iblk0_eq, iblk1_eq, iblk3_eq, iblk4_eq, out_eq _ _ _ _ _ _ _ _ _ _ _ _ _ _ _ _ _ _ _ ho]
  funext (j : S384x8x512.Idx)
  have h2 : (j 2).val < 512 := (j 2).isLt
  have hb : t.val * 512 + (j 2).val < 8704 := by omega
  have E : ((cfg1.win 5).blk t).view.emb j = ix3 (j 0) (j 1) (⟨t.val * 512 + (j 2).val, hb⟩ : Fin 8704) := by
    funext a; apply Fin.ext
    match a with
    | ⟨0, _⟩ => show win1_5.index t 0 * 384 + 1 * (j 0).val = (j 0).val; rw [e0]; omega
    | ⟨1, _⟩ => show win1_5.index t 1 * 8 + 1 * (j 1).val = (j 1).val; rw [e1]; omega
    | ⟨2, _⟩ => show win1_5.index t 2 * 512 + 1 * (j 2).val = t.val * 512 + (j 2).val; rw [e2]; omega
  have hcol : (⟨512 * (grid1.coords t 0).val + (j 2).val, by rw [et]; omega⟩ : Fin 8704) = ⟨t.val * 512 + (j 2).val, hb⟩ :=
    Fin.ext (by show 512 * (grid1.coords t 0).val + (j 2).val = t.val * 512 + (j 2).val; rw [et]; omega)
  show block _ ho _ _ _ _ _ j = res V c (((cfg1.win 5).blk t).view.emb j)
  rw [E]
  unfold block res result
  rw [hcol]
  have hw : (fun k => iblk1 V c 2 t (ix2 k (j 2))) = fun k : Fin 6144 => V c main_arg1 (ix2 k (⟨t.val * 512 + (j 2).val, hb⟩ : Fin 8704)) :=
    funext fun k => iblk2_apply V c t k (j 2) _ rfl
  rw [hw]
  rfl

/-- An index of the result is in point `t`'s block when its column is among the block's 512. -/
theorem mem_blk (t : Fin cfg1.N) (i : S384x8x8704.Idx) :
    i ∈ ((cfg1.win 5).blk t).view.set ↔ t.val * 512 ≤ (i 2 : Nat) ∧ (i 2 : Nat) < t.val * 512 + 512 := by
  show i ∈ ((View.whole main_v1).slice (win1_5.rect t)).set ↔ _
  rw [View.set_slice_whole, Rect.mem_set_unit]
  obtain ⟨-, -, -, -, -, ⟨e0, e1, e2⟩, -⟩ := idx_closed t
  have h0 : (i 0 : Nat) < 384 := (i 0).isLt
  have h1 : (i 1 : Nat) < 8 := (i 1).isLt
  refine ⟨fun h => ?_, fun h a => ?_⟩
  · have h2 : win1_5.index t 2 * 512 ≤ (i 2 : Nat) ∧ (i 2 : Nat) < win1_5.index t 2 * 512 + 512 := h 2
    rw [e2] at h2; exact h2
  · match a with
    | ⟨0, _⟩ => show win1_5.index t 0 * 384 ≤ (i 0 : Nat) ∧ (i 0 : Nat) < win1_5.index t 0 * 384 + 384; rw [e0]; omega
    | ⟨1, _⟩ => show win1_5.index t 1 * 8 ≤ (i 1 : Nat) ∧ (i 1 : Nat) < win1_5.index t 1 * 8 + 8; rw [e1]; omega
    | ⟨2, _⟩ => show win1_5.index t 2 * 512 ≤ (i 2 : Nat) ∧ (i 2 : Nat) < win1_5.index t 2 * 512 + 512; rw [e2]; exact h

/-- Every index is in the block of its column. -/
theorem cover (i : S384x8x8704.Idx) :
    ∃ t : Fin cfg1.N, (cfg1.win 5).flush t = true ∧ i ∈ ((cfg1.win 5).blk t).view.set := by
  have h2 : (i 2 : Nat) < 8704 := (i 2).isLt
  refine ⟨⟨(i 2 : Nat) / 512, by show _ < grid1.N; rw [Gen.N_1]; omega⟩, flush1_5 _, ?_⟩
  rw [mem_blk]
  dsimp only
  omega

/-- The result array after the run is the whole result. -/
theorem final_eq (c : Dev nD) : (dat1 V c).arrAt 5 cfg1.N = res V c :=
  (dat1 V c).arrAt_eq_of_cover 5 (res V c) (fun t _ => flushed_eq V c t) cover

end Cert.KernelIdeal.Stage1
-- ==== Proof.KernelRun.lean ====
/-
  The whole kernel on the extended reals: the quantiser stage, then the matmul stage on what it left.
-/
module

public import proofs.«01_k».proof.Proof.KernelQuant
public import proofs.«01_k».proof.Proof.KernelMatmul

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.QuantReal (codes scaleCol scaleRow)
open Cert.MatmulIdeal.Tile (result)

variable (m : (ℓ : Loc nD τ sig) → Buf (Elt Ideal) ℓ) (ρ : Dev nD → PrngReg)

/-! ## What the matmul stage finds -/

theorem V1_codes (c : Dev nD) : V1 (F := Ideal) m ρ c main_v0_0 = codes (m ((c : Thread nD τ).loc main_arg0)) :=
  (hF0 m ρ c 1).symm.trans (Stage0.final1 (V0 m ρ) c)
theorem V1_scaleCol (c : Dev nD) : V1 (F := Ideal) m ρ c main_v0_1 = scaleCol (m ((c : Thread nD τ).loc main_arg0)) :=
  (hF0 m ρ c 2).symm.trans (Stage0.final2 (V0 m ρ) c)
theorem V1_scaleRow (c : Dev nD) : V1 (F := Ideal) m ρ c main_v0_2 = scaleRow (m ((c : Thread nD τ).loc main_arg0)) :=
  (hF0 m ρ c 3).symm.trans (Stage0.final3 (V0 m ρ) c)
theorem V1_w (c : Dev nD) : V1 (F := Ideal) m ρ c main_arg1 = m ((c : Thread nD τ).loc main_arg1) :=
  W1_args m ρ c main_arg1 (by decide)
theorem V1_ws (c : Dev nD) : V1 (F := Ideal) m ρ c main_arg2 = m ((c : Thread nD τ).loc main_arg2) :=
  W1_args m ρ c main_arg2 (by decide)
theorem V1_b (c : Dev nD) : V1 (F := Ideal) m ρ c main_arg3 = m ((c : Thread nD τ).loc main_arg3) :=
  W1_args m ρ c main_arg3 (by decide)

/-! ## What the matmul stage leaves -/

/-- The product of device `c`'s arguments. -/
abbrev prod (c : Dev nD) : Vec Ideal S384x8x8704 .bf16 :=
  result (codes (m ((c : Thread nD τ).loc main_arg0))) (scaleCol (m ((c : Thread nD τ).loc main_arg0)))
    (m ((c : Thread nD τ).loc main_arg1)) (m ((c : Thread nD τ).loc main_arg2)) (m ((c : Thread nD τ).loc main_arg3))

theorem W2_prod (c : Dev nD) : W2 (F := Ideal) m ρ c (Proc.devRef .tc main_v1) = prod m c := by
  refine (W2_arr m ρ c 5).trans ((Stage1.final_eq (V1 m ρ) c).trans ?_)
  show result _ _ _ _ _ = _
  rw [V1_codes, V1_scaleCol, V1_w, V1_ws, V1_b]

theorem W2_codes (c : Dev nD) :
    W2 (F := Ideal) m ρ c (Proc.devRef .tc main_v0_0) = codes (m ((c : Thread nD τ).loc main_arg0)) :=
  (W2_of m ρ c main_v0_0 (by decide)).trans (V1_codes m ρ c)

theorem W2_scaleRow (c : Dev nD) :
    W2 (F := Ideal) m ρ c (Proc.devRef .tc main_v0_2) = scaleRow (m ((c : Thread nD τ).loc main_arg0)) :=
  (W2_of m ρ c main_v0_2 (by decide)).trans (V1_scaleRow m ρ c)

/-! ## The run -/

-- the library lemma's implicit arguments are found by unifying its conclusion with this one, which takes unfolding
-- plain definitions in a metavariable's type
set_option backward.isDefEq.respectTransparency.types false in
/-- From any memory the kernel ends with the product, the codes and the scales of its arguments, and with its
    arguments as they were. -/
theorem run : θ_run defs (onTc (τ := τ) (main (F := Ideal))) ⟨m, fun _ => 0, ρ⟩ (fun r => ∀ c : Dev nD,
      r.2.mem ((c : Thread nD τ).loc main_v1) = prod m c
      ∧ r.2.mem ((c : Thread nD τ).loc main_v0_0) = codes (m ((c : Thread nD τ).loc main_arg0))
      ∧ r.2.mem ((c : Thread nD τ).loc main_v0_2) = scaleRow (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1 (by decide))).trans (W2_prod m ρ c),
       (h c _ (mem_uc main_v0_0 (by decide))).trans (W2_codes m ρ c),
       (h c _ (mem_uc main_v0_2 (by decide))).trans (W2_scaleRow m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Run
-- ==== Proof.ReferenceReal.lean ====
/-
  The reference on the extended reals: its three arrays, from its arguments.
-/
module

public import proofs.«01_k».proof.Proof.KernelQuant
public import proofs.«01_k».proof.Proof.MatmulArray

@[expose] public section

set_option maxRecDepth 16384

noncomputable section

namespace Cert.ReferenceIdeal.At

open Cert.ReferenceIdeal Cert.ReferenceIdeal.Gen Idealize.ShloMosaic Idealize.ShloMosaic.TcCoe Idealize.SL.Sem
open Idealize.ShloMosaic.Pipeline (Dat)
open Cert.QuantReal (scale code codes scaleCol scaleRow r_scale r_code hz2 hz3)
open Cert.MatmulIdeal.Tile (result entry row)

theorem hz1 : (![0] : Fin 1 → Nat) = fun _ => 0 := funext fun a => by fin_cases a; rfl

/-! ## The product, from codes `x` and a column of scales `s` -/

/-- The products' sums times the row scales and the column scales. -/
def scaled (x : FVec Ideal S3x1024x6144 .fp8e4m3) (s : FVec Ideal S3x1024x1 .f32) (w : Vec Ideal S6144x8704 .fp8e4m3)
    (ws : Vec Ideal S8704 .f32) : FVec Ideal S3x1024x8704 .f32 :=
  mulf (mulf (matmul (φ₂ := .fp8e4m3) dot_S3x1024x6144_S6144x8704_S3x1024x8704_2_0_01_1_n_n none x w (constant S3x1024x8704 .f32 0x00000000#32))
      (broadcastTo S3x1024x8704 s broadcasts_S3x1024x1_S3x1024x8704))
    (broadcastTo S3x1024x8704 (shapeCast S1x1x8704 ws shapeCasts_S8704_S1x1x8704) broadcasts_S1x1x8704_S3x1024x8704)

theorem pay7_eq (x : Vec Ideal S3x1024x6144 .bf16) (w : Vec Ideal S6144x8704 .fp8e4m3) (ws : Vec Ideal S8704 .f32) :
    k0_pay7 (F := Ideal) x w ws = scaled (k0_pay6 x) (k0_pay5 x) w ws := by
  unfold k0_pay7 scaled
  generalize k0_pay6 (F := Ideal) x = a
  generalize k0_pay5 (F := Ideal) x = b
  exact Eq.refl _

/-- The biased product at row `8 p + q` (row `j` of batch `i`) and column `n`. -/
theorem biased_at (x : FVec Ideal S3x1024x6144 .fp8e4m3) (s : FVec Ideal S3x1024x1 .f32) (w : Vec Ideal S6144x8704 .fp8e4m3)
    (ws b : Vec Ideal S8704 .f32) (p : Fin 384) (q : Fin 8) (n : Fin 8704) (i : Fin 3) (j : Fin 1024)
    (hr : 8 * p.val + q.val = 1024 * i.val + j.val) :
    k0_pay1 (F := Ideal) (scaled x s w ws) (k0_pay8 (F := Ideal) b) (ix3 p q n)
      = ((∑ k : Fin 6144, x (ix3 i j k) * w (ix2 k n) : EReal) * s (ix3 i j 0) * ws (ix1 n) + b (ix1 n) : EReal) := by
  have hi' : p.val / 128 < 3 := by omega
  have ei : i = ⟨p.val / 128, hi'⟩ := Fin.ext (by dsimp only; omega)
  have hs' : p.val % 128 * 8 + q.val < 1024 := by omega
  have es : j = ⟨p.val % 128 * 8 + q.val, hs'⟩ := Fin.ext (by dsimp only; omega)
  clear hr
  subst ei es
  unfold k0_pay1 k0_pay8 scaled
  simp only [pointwise]
  try simp

/-- The scales as a row per batch. -/
theorem row_at (s : FVec Ideal S3x1024x1 .f32) (i : Fin 3) (j : Fin 1024) :
    k0_pay2 (F := Ideal) s (ix3 i 0 j) = s (ix3 i j 0) := by
  unfold k0_pay2
  simp only [pointwise]
  try simp

/-! ## What the reference leaves -/

theorem out4 (x : Vec Ideal S3x1024x6144 .bf16) (w : Vec Ideal S6144x8704 .fp8e4m3) (ws b : Vec Ideal S8704 .f32) :
    out0_4 (F := Ideal) x w ws b = result (codes x) (scaleCol x) w ws b := by
  unfold out0_4
  rw [View.canon_unit_zero hz3, View.ld_unit_zero (S := S3x1024x6144) hz3 _ x, View.ld_unit_zero (S := S6144x8704) hz2 _ w,
    View.ld_unit_zero (S := S8704) hz1 _ ws, View.ld_unit_zero (S := S8704) hz1 _ b, pay7_eq]
  funext y
  idx_vars y
  have hr : (row y0 y1).val = 8 * y0.val + y1.val := rfl
  have h3 : (row y0 y1).val < 3072 := (row y0 y1).isLt
  rw [biased_at _ _ w ws b y0 y1 y2 ⟨(row y0 y1).val / 1024, by omega⟩ ⟨(row y0 y1).val % 1024, by omega⟩ (by dsimp only; omega),
    r_scale, funext fun k => congrArg (fun z : EReal => z * (w (ix2 k y2) : EReal))
      (r_code x ⟨(row y0 y1).val / 1024, by omega⟩ ⟨(row y0 y1).val % 1024, by omega⟩ k)]
  unfold result entry
  exact Eq.refl _

theorem out5 (x : Vec Ideal S3x1024x6144 .bf16) (w : Vec Ideal S6144x8704 .fp8e4m3) (ws b : Vec Ideal S8704 .f32) :
    out0_5 (F := Ideal) x w ws b = codes x := by
  unfold out0_5
  rw [View.canon_unit_zero hz3, View.ld_unit_zero (S := S3x1024x6144) hz3 _ x]
  funext y
  idx_vars y
  exact r_code x y0 y1 y2

theorem out6 (x : Vec Ideal S3x1024x6144 .bf16) (w : Vec Ideal S6144x8704 .fp8e4m3) (ws b : Vec Ideal S8704 .f32) :
    out0_6 (F := Ideal) x w ws b = scaleRow x := by
  unfold out0_6
  rw [View.canon_unit_zero hz3, View.ld_unit_zero (S := S3x1024x6144) hz3 _ x]
  funext y
  idx_vars y
  obtain rfl : y1 = 0 := Subsingleton.elim _ _
  rw [row_at, r_scale]
  exact Eq.refl _

/-! ## The run: one block is the whole of every array -/

variable (m : (ℓ : Loc nD τ sig) → Buf (Elt Ideal) ℓ) (ρ : Dev nD → PrngReg)

theorem idx : ∀ t : Fin grid0.N,
    (win0_0.index t 0 = 0 ∧ win0_0.index t 1 = 0 ∧ win0_0.index t 2 = 0)
    ∧ (win0_1.index t 0 = 0 ∧ win0_1.index t 1 = 0) ∧ win0_2.index t 0 = 0 ∧ win0_3.index t 0 = 0
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0) := by
  decide +kernel

theorem emb0 (t : Fin cfg0.N) (j : S3x1024x6144.Idx) : ((cfg0.win 0).blk t).view.emb j = j := by
  obtain ⟨⟨e0, e1, e2⟩, -⟩ := idx t
  funext a; apply Fin.ext
  match a with
  | ⟨0, _⟩ => show win0_0.index t 0 * 3 + 1 * (j 0).val = (j 0).val; rw [e0]; omega
  | ⟨1, _⟩ => show win0_0.index t 1 * 1024 + 1 * (j 1).val = (j 1).val; rw [e1]; omega
  | ⟨2, _⟩ => show win0_0.index t 2 * 6144 + 1 * (j 2).val = (j 2).val; rw [e2]; omega

theorem emb1 (t : Fin cfg0.N) (j : S6144x8704.Idx) : ((cfg0.win 1).blk t).view.emb j = j := by
  obtain ⟨-, ⟨e0, e1⟩, -⟩ := idx t
  funext a; apply Fin.ext
  match a with
  | ⟨0, _⟩ => show win0_1.index t 0 * 6144 + 1 * (j 0).val = (j 0).val; rw [e0]; omega
  | ⟨1, _⟩ => show win0_1.index t 1 * 8704 + 1 * (j 1).val = (j 1).val; rw [e1]; omega

theorem emb2 (t : Fin cfg0.N) (j : S8704.Idx) : ((cfg0.win 2).blk t).view.emb j = j := by
  obtain ⟨-, -, e0, -⟩ := idx t
  funext a; apply Fin.ext
  match a with
  | ⟨0, _⟩ => show win0_2.index t 0 * 8704 + 1 * (j 0).val = (j 0).val; rw [e0]; omega

theorem emb3 (t : Fin cfg0.N) (j : S8704.Idx) : ((cfg0.win 3).blk t).view.emb j = j := by
  obtain ⟨-, -, -, e0, -⟩ := idx t
  funext a; apply Fin.ext
  match a with
  | ⟨0, _⟩ => show win0_3.index t 0 * 8704 + 1 * (j 0).val = (j 0).val; rw [e0]; omega

theorem emb4 (t : Fin cfg0.N) (j : S384x8x8704.Idx) : ((cfg0.win 4).blk t).view.emb j = j := by
  obtain ⟨-, -, -, -, ⟨e0, e1, e2⟩, -⟩ := idx t
  funext a; apply Fin.ext
  match a with
  | ⟨0, _⟩ => show win0_4.index t 0 * 384 + 1 * (j 0).val = (j 0).val; rw [e0]; omega
  | ⟨1, _⟩ => show win0_4.index t 1 * 8 + 1 * (j 1).val = (j 1).val; rw [e1]; omega
  | ⟨2, _⟩ => show win0_4.index t 2 * 8704 + 1 * (j 2).val = (j 2).val; rw [e2]; omega

theorem emb5 (t : Fin cfg0.N) (j : S3x1024x6144.Idx) : ((cfg0.win 5).blk t).view.emb j = j := by
  obtain ⟨-, -, -, -, -, ⟨e0, e1, e2⟩, -⟩ := idx t
  funext a; apply Fin.ext
  match a with
  | ⟨0, _⟩ => show win0_5.index t 0 * 3 + 1 * (j 0).val = (j 0).val; rw [e0]; omega
  | ⟨1, _⟩ => show win0_5.index t 1 * 1024 + 1 * (j 1).val = (j 1).val; rw [e1]; omega
  | ⟨2, _⟩ => show win0_5.index t 2 * 6144 + 1 * (j 2).val = (j 2).val; rw [e2]; omega

theorem emb6 (t : Fin cfg0.N) (j : S3x1x1024.Idx) : ((cfg0.win 6).blk t).view.emb j = j := by
  obtain ⟨-, -, -, -, -, -, ⟨e0, e1, e2⟩⟩ := idx t
  funext a; apply Fin.ext
  match a with
  | ⟨0, _⟩ => show win0_6.index t 0 * 3 + 1 * (j 0).val = (j 0).val; rw [e0]; omega
  | ⟨1, _⟩ => show win0_6.index t 1 * 1 + 1 * (j 1).val = (j 1).val; rw [e1]; omega
  | ⟨2, _⟩ => show win0_6.index t 2 * 1024 + 1 * (j 2).val = (j 2).val; rw [e2]; omega

theorem iblk0_eq (c : Dev nD) (t : Fin cfg0.N) : iblk m c 0 t = m ((c : Thread nD τ).loc main_arg0) := by
  funext j
  show m ((c : Thread nD τ).loc main_arg0) (((cfg0.win 0).blk t).view.emb j) = _
  rw [emb0]
theorem iblk1_eq (c : Dev nD) (t : Fin cfg0.N) : iblk m c 1 t = m ((c : Thread nD τ).loc main_arg1) := by
  funext j
  show m ((c : Thread nD τ).loc main_arg1) (((cfg0.win 1).blk t).view.emb j) = _
  rw [emb1]
theorem iblk2_eq (c : Dev nD) (t : Fin cfg0.N) : iblk m c 2 t = m ((c : Thread nD τ).loc main_arg2) := by
  funext j
  show m ((c : Thread nD τ).loc main_arg2) (((cfg0.win 2).blk t).view.emb j) = _
  rw [emb2]
theorem iblk3_eq (c : Dev nD) (t : Fin cfg0.N) : iblk m c 3 t = m ((c : Thread nD τ).loc main_arg3) := by
  funext j
  show m ((c : Thread nD τ).loc main_arg3) (((cfg0.win 3).blk t).view.emb j) = _
  rw [emb3]

/-- The product of device `c`'s arguments. -/
abbrev prod (c : Dev nD) : Vec Ideal S384x8x8704 .bf16 :=
  result (codes (m ((c : Thread nD τ).loc main_arg0))) (scaleCol (m ((c : Thread nD τ).loc main_arg0)))
    (m ((c : Thread nD τ).loc main_arg1)) (m ((c : Thread nD τ).loc main_arg2)) (m ((c : Thread nD τ).loc main_arg3))

theorem flushed4 (c : Dev nD) (t : Fin cfg0.N) :
    (dats m 0 c).flushed 4 t = ((cfg0.win 4).blk t).view.read (Elt Ideal) (prod m c) := by
  show (cfg0.win 4).cut (grid0.coords t) ((dats m 0 c).after 4 t) = _
  rw [after0_4, iblk0_eq, iblk1_eq, iblk2_eq, iblk3_eq, out4]
  funext (j : S384x8x8704.Idx)
  show prod m c j = prod m c (((cfg0.win 4).blk t).view.emb j)
  rw [emb4]

theorem flushed5 (c : Dev nD) (t : Fin cfg0.N) :
    (dats m 0 c).flushed 5 t = ((cfg0.win 5).blk t).view.read (Elt Ideal) (codes (m ((c : Thread nD τ).loc main_arg0))) := by
  show (cfg0.win 5).cut (grid0.coords t) ((dats m 0 c).after 5 t) = _
  rw [after0_5, iblk0_eq, iblk1_eq, iblk2_eq, iblk3_eq, out5]
  funext (j : S3x1024x6144.Idx)
  show codes (m ((c : Thread nD τ).loc main_arg0)) j = codes (m ((c : Thread nD τ).loc main_arg0)) (((cfg0.win 5).blk t).view.emb j)
  rw [emb5]

theorem flushed6 (c : Dev nD) (t : Fin cfg0.N) :
    (dats m 0 c).flushed 6 t = ((cfg0.win 6).blk t).view.read (Elt Ideal) (scaleRow (m ((c : Thread nD τ).loc main_arg0))) := by
  show (cfg0.win 6).cut (grid0.coords t) ((dats m 0 c).after 6 t) = _
  rw [after0_6, iblk0_eq, iblk1_eq, iblk2_eq, iblk3_eq, out6]
  funext (j : S3x1x1024.Idx)
  show scaleRow (m ((c : Thread nD τ).loc main_arg0)) j = scaleRow (m ((c : Thread nD τ).loc main_arg0)) (((cfg0.win 6).blk t).view.emb j)
  rw [emb6]

theorem cover4 (i : S384x8x8704.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩
theorem cover5 (i : S3x1024x6144.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩
theorem cover6 (i : S3x1x1024.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- From any memory the reference ends with the product, the codes and the scales of its arguments, and with its
    arguments as they were. -/
theorem run : θ_run defs (onTc (τ := τ) (main (F := Ideal))) ⟨m, fun _ => 0, ρ⟩ (fun r => ∀ c : Dev nD,
      r.2.mem ((c : Thread nD τ).loc main_v0_0) = prod m c
      ∧ r.2.mem ((c : Thread nD τ).loc main_v0_1) = codes (m ((c : Thread nD τ).loc main_arg0))
      ∧ r.2.mem ((c : Thread nD τ).loc main_v0_2) = scaleRow (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun _ h c =>
    ⟨((h c).1 4).trans ((dats m 0 c).arrAt_eq_of_cover 4 _ (fun t _ => flushed4 m c t) cover4),
     ((h c).1 5).trans ((dats m 0 c).arrAt_eq_of_cover 5 _ (fun t _ => flushed5 m c t) cover5),
     ((h c).1 6).trans ((dats m 0 c).arrAt_eq_of_cover 6 _ (fun t _ => flushed6 m c t) cover6),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩) (run_main m ρ)

end Cert.ReferenceIdeal.At
-- ==== Proof.KernelEq.lean ====
/-
  The whole kernel and the reference compute the same product, codes and scales on the extended reals.
-/
module

public import proofs.«01_k».proof.Proof.KernelRun
public import proofs.«01_k».proof.Proof.ReferenceReal

@[expose] public section

set_option maxRecDepth 16384

noncomputable section

namespace Cert.KernelEq

open Idealize.ShloMosaic Idealize.ShloMosaic.TcCoe Idealize.SL.Sem
open Cert.QuantReal (codes scaleRow)

/-- The claim's statement: from the same arguments both runs end with the same three results and their arguments
    unchanged. -/
theorem algebraic : Cert.algebraic_KernelIdeal_ReferenceIdeal := by
  intro m ρ m' ρ' _ hag
  refine ⟨fun c => Cert.KernelIdeal.Run.prod m c,
    fun c => codes (m ((c : Thread Cert.KernelIdeal.nD Cert.KernelIdeal.τ).loc Cert.KernelIdeal.main_arg0)),
    fun c => scaleRow (m ((c : Thread Cert.KernelIdeal.nD Cert.KernelIdeal.τ).loc Cert.KernelIdeal.main_arg0)),
    Cert.KernelIdeal.Run.run m ρ, ?_⟩
  refine (θ_run _ _ _).mono (fun _ h c => ?_) (Cert.ReferenceIdeal.At.run m' ρ')
  obtain ⟨h0, h1, h2, h3⟩ := hag c
  refine ⟨(h c).1.trans ?_, (h c).2.1.trans ?_, (h c).2.2.1.trans ?_, (h c).2.2.2⟩
  · show Cert.MatmulIdeal.Tile.result _ _ _ _ _ = _
    rw [h0, h1, h2, h3]
  · exact congrArg codes h0
  · exact congrArg scaleRow h0

end Cert.KernelEq
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseRef
public import proofs.«01_k».proof.Proof.Gen.QuantiseRef.Skeleton
public import proofs.«01_k».proof.Proof.Gen.QuantiseRef.Launch
public import proofs.«01_k».proof.Proof.Gen.QuantiseRef.Points
public import proofs.«01_k».proof.Proof.Gen.QuantiseRef.Frame
public import proofs.«01_k».proof.Proof.Gen.Matmul
public import proofs.«01_k».proof.Proof.Gen.Matmul.Skeleton
public import proofs.«01_k».proof.Proof.Gen.Matmul.Launch
public import proofs.«01_k».proof.Proof.Gen.Matmul.Points
public import proofs.«01_k».proof.Proof.Gen.Matmul.Frame
public import proofs.«01_k».proof.Proof.Gen.MatmulIdeal
public import proofs.«01_k».proof.Proof.Gen.MatmulIdeal.Skeleton
public import proofs.«01_k».proof.Proof.Gen.MatmulIdeal.Launch
public import proofs.«01_k».proof.Proof.Gen.MatmulIdeal.Points
public import proofs.«01_k».proof.Proof.Gen.MatmulIdeal.Frame
public import proofs.«01_k».proof.Proof.Gen.MatmulRefIdeal
public import proofs.«01_k».proof.Proof.Gen.MatmulRefIdeal.Skeleton
public import proofs.«01_k».proof.Proof.Gen.MatmulRefIdeal.Launch
public import proofs.«01_k».proof.Proof.Gen.MatmulRefIdeal.Points
public import proofs.«01_k».proof.Proof.Gen.MatmulRefIdeal.Frame
public import proofs.«01_k».proof.Proof.Gen.Quantise.Value
public import proofs.«01_k».proof.Proof.Gen.MatmulIdeal.Value
public import proofs.«01_k».proof.Proof.Gen.MatmulRefIdeal.Value
public import proofs.«01_k».proof.Proof.MatmulEq
public import proofs.«01_k».proof.Proof.QuantEq
public import proofs.«01_k».proof.Proof.KernelEq
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Quantise.Gen.facts,
    Cert.QuantiseRef.Gen.facts, Cert.Matmul.Gen.facts, Cert.MatmulIdeal.Gen.facts, Cert.MatmulRefIdeal.Gen.facts,
    fun m ρ _ => Cert.Kernel.Gen.frame m ρ, fun m ρ _ => Cert.KernelIdeal.Gen.frame m ρ,
    fun m ρ _ => Cert.ReferenceIdeal.Gen.frame m ρ, fun m ρ _ => Cert.Quantise.Gen.frame m ρ,
    fun m ρ _ => Cert.QuantiseRef.Gen.frame m ρ, fun m ρ _ => Cert.Matmul.Gen.frame m ρ,
    fun m ρ _ => Cert.MatmulIdeal.Gen.frame m ρ, fun m ρ _ => Cert.MatmulRefIdeal.Gen.frame m ρ,
    trivial, Cert.KernelEq.algebraic, Cert.QuantRow.bitexact, trivial, Cert.MatmulEq.algebraic⟩

end Cert.Proof

end
